-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x2048x6144 : Shape := ⟨3, ![4, 2048, 6144]⟩
abbrev S6144 : Shape := ⟨1, ![6144]⟩
abbrev S_ : Shape := ⟨0, ![]⟩
abbrev S4x2048 : Shape := ⟨2, ![4, 2048]⟩
abbrev S4x2048x1 : Shape := ⟨3, ![4, 2048, 1]⟩
abbrev S1x1x6144 : Shape := ⟨3, ![1, 1, 6144]⟩

class Facts : Prop where
  bitsLt_bf16_f32 : FTy.bits .bf16 < FTy.bits .f32
  reducesTo_S4x2048x6144_S4x2048_d2 : S4x2048x6144.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x6144_0_1_2 : S4x2048x1.BroadcastsInDim S4x2048x6144 (![0, 1, 2] : Fin 3 → Fin S4x2048x6144.rank)
  bcast_S6144_S1x1x6144_2 : S6144.BroadcastsInDim S1x1x6144 (![2] : Fin 1 → Fin S1x1x6144.rank)
  bcast_S1x1x6144_S4x2048x6144_0_1_2 : S1x1x6144.BroadcastsInDim S4x2048x6144 (![0, 1, 2] : Fin 3 → Fin S4x2048x6144.rank)

variable [Facts]

def fn_part1 {F : FTy → Type} [FloatOps F] (main_v19 : FVec F S4x2048 .f32) : IVec S4x2048x1 1 :=
  let main_v20 : FVec F S4x2048x1 .f32 := broadcastInDim S4x2048x1 ![0, 1] bcast_S4x2048_S4x2048x1_0_1 main_v19
  let main_cst_3 : FVec F S_ .f32 := constant S_ .f32 0x3B124925#32
  let main_v21 : FVec F S4x2048x1 .f32 := broadcastInDim S4x2048x1 ![] bcast_S_S4x2048x1 main_cst_3
  let main_v22 : FVec F S4x2048x1 .f32 := mulf main_v20 main_v21
  let main_cst_4 : FVec F S_ .f32 := constant S_ .f32 0x00000000#32
  let main_v23 : FVec F S4x2048x1 .f32 := broadcastInDim S4x2048x1 ![] bcast_S_S4x2048x1 main_cst_4
  let main_v24 : IVec S4x2048x1 1 := cmpf .oeq main_v22 main_v23
  let main_cst_5 : FVec F S_ .f32 := constant S_ .f32 0x00800000#32
  let main_v25 : FVec F S4x2048x1 .f32 := broadcastInDim S4x2048x1 ![] bcast_S_S4x2048x1 main_cst_5
  let main_v26 : IVec S4x2048x1 1 := cmpf .oge main_v22 main_v25
  let main_cst_6 : FVec F S_ .f32 := constant S_ .f32 0x7E800000#32
  let main_v27 : FVec F S4x2048x1 .f32 := broadcastInDim S4x2048x1 ![] bcast_S_S4x2048x1 main_cst_6
  let main_v28 : IVec S4x2048x1 1 := cmpf .olt main_v22 main_v27
  let main_v29 : IVec S4x2048x1 1 := andi main_v26 main_v28
  let main_v30 : IVec S4x2048x1 1 := ori main_v24 main_v29
  main_v30

def fn {F : FTy → Type} [FloatOps F] (main_arg0 : FVec F S4x2048x6144 .bf16) (main_arg1 : FVec F S4x2048x6144 .bf16) (main_arg2 : FVec F S6144 .f32) : IVec S4x2048x1 1 :=
  let main_v0 : FVec F S4x2048x6144 .f32 := (extf .f32 · bitsLt_bf16_f32) main_arg0
  let main_v1 : FVec F S4x2048x6144 .f32 := (extf .f32 · bitsLt_bf16_f32) main_arg1
  let main_v2 : FVec F S4x2048x6144 .f32 := addf main_v0 main_v1
  let main_v3 : FVec F S4x2048x6144 .bf16 := (truncf .bf16 · bitsLt_bf16_f32) main_v2
  let main_v4 : FVec F S4x2048x6144 .f32 := (extf .f32 · bitsLt_bf16_f32) main_v3
  let main_v5 : FVec F S4x2048x6144 .f32 := mulf main_v4 main_v4
  let main_cst : FVec F S_ .f32 := constant S_ .f32 0x00000000#32
  let main_v6 : FVec F S4x2048 .f32 := (fun x v => Host.reduceAdd x v reducesTo_S4x2048x6144_S4x2048_d2 h_S_) main_v5 main_cst
  let main_v7 : FVec F S4x2048x1 .f32 := broadcastInDim S4x2048x1 ![0, 1] bcast_S4x2048_S4x2048x1_0_1 main_v6
  let main_cst_0 : FVec F S_ .f32 := constant S_ .f32 0x45C00000#32
  let main_v8 : FVec F S4x2048x1 .f32 := broadcastInDim S4x2048x1 ![] bcast_S_S4x2048x1 main_cst_0
  let main_v9 : FVec F S4x2048x1 .f32 := Host.divf main_v7 main_v8
  let main_cst_1 : FVec F S_ .f32 := constant S_ .f32 0x358637BD#32
  let main_v10 : FVec F S4x2048x1 .f32 := broadcastInDim S4x2048x1 ![] bcast_S_S4x2048x1 main_cst_1
  let main_v11 : FVec F S4x2048x1 .f32 := addf main_v9 main_v10
  let main_v12 : FVec F S4x2048x1 .f32 := Host.rsqrt main_v11
  let main_v13 : FVec F S4x2048x6144 .f32 := broadcastInDim S4x2048x6144 ![0, 1, 2] bcast_S4x2048x1_S4x2048x6144_0_1_2 main_v12
  let main_v14 : FVec F S4x2048x6144 .f32 := mulf main_v4 main_v13
  let main_v15 : FVec F S1x1x6144 .f32 := broadcastInDim S1x1x6144 ![2] bcast_S6144_S1x1x6144_2 main_arg2
  let main_v16 : FVec F S4x2048x6144 .f32 := broadcastInDim S4x2048x6144 ![0, 1, 2] bcast_S1x1x6144_S4x2048x6144_0_1_2 main_v15
  let main_v17 : FVec F S4x2048x6144 .f32 := mulf main_v14 main_v16
  let main_v18 : FVec F S4x2048x6144 .f32 := Host.absf main_v17
  let main_cst_2 : FVec F S_ .f32 := constant S_ .f32 0xFF800000#32
  let main_v19 : FVec F S4x2048 .f32 := (fun x v => Host.reduce FloatOps.maximumf x v reducesTo_S4x2048x6144_S4x2048_d2 h_S_) main_v18 main_cst_2
  fn_part1 (F := F) main_v19
-- ==== Kernel.lean ====
abbrev S4x2048x6144 : Shape := ⟨3, ![4, 2048, 6144]⟩
abbrev S6144 : Shape := ⟨1, ![6144]⟩
abbrev S1x6144 : Shape := ⟨2, ![1, 6144]⟩
abbrev S1024x8x6144 : Shape := ⟨3, ![1024, 8, 6144]⟩
abbrev S64x128 : Shape := ⟨2, ![64, 128]⟩
abbrev S1x256x6144 : Shape := ⟨3, ![1, 256, 6144]⟩
abbrev S32x8x6144 : Shape := ⟨3, ![32, 8, 6144]⟩
abbrev S256x6144 : Shape := ⟨2, ![256, 6144]⟩
abbrev S256x128 : Shape := ⟨2, ![256, 128]⟩
abbrev S256x1 : Shape := ⟨2, ![256, 1]⟩
abbrev S1x32x6144 : Shape := ⟨3, ![1, 32, 6144]⟩
abbrev S32x6144 : Shape := ⟨2, ![32, 6144]⟩
abbrev S4x8x6144 : Shape := ⟨3, ![4, 8, 6144]⟩
abbrev S32x128 : Shape := ⟨2, ![32, 128]⟩
abbrev S256 : Shape := ⟨1, ![256]⟩
abbrev S32x1 : Shape := ⟨2, ![32, 1]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S2x128 : Shape := ⟨2, ![2, 128]⟩

abbrev nBuf : Space → Nat
  | .hbm => 7
  | .vmem => 13
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x6144, .bf16⟩
  | .hbm, ⟨2, _⟩ => ⟨S6144, .f32⟩
  | .hbm, ⟨3, _⟩ => ⟨S1x6144, .f32⟩
  | .hbm, ⟨4, _⟩ => ⟨S1024x8x6144, .bf16⟩
  | .hbm, ⟨5, _⟩ => ⟨S4x2048x6144, .fp8e4m3⟩
  | .hbm, ⟨6, _⟩ => ⟨S64x128, .f32⟩
  | .local _ .vmem, ⟨0, _⟩ => ⟨S1x256x6144, .bf16⟩
  | .local _ .vmem, ⟨1, _⟩ => ⟨S1x256x6144, .bf16⟩
  | .local _ .vmem, ⟨2, _⟩ => ⟨S1x256x6144, .bf16⟩
  | .local _ .vmem, ⟨3, _⟩ => ⟨S1x256x6144, .bf16⟩
  | .local _ .vmem, ⟨4, _⟩ => ⟨S1x6144, .f32⟩
  | .local _ .vmem, ⟨5, _⟩ => ⟨S32x8x6144, .bf16⟩
  | .local _ .vmem, ⟨6, _⟩ => ⟨S32x8x6144, .bf16⟩
  | .local _ .vmem, ⟨7, _⟩ => ⟨S1x256x6144, .fp8e4m3⟩
  | .local _ .vmem, ⟨8, _⟩ => ⟨S1x256x6144, .fp8e4m3⟩
  | .local _ .vmem, ⟨9, _⟩ => ⟨S64x128, .f32⟩
  | .local _ .vmem, ⟨10, _⟩ => ⟨S256x6144, .f32⟩
  | .local _ .vmem, ⟨11, _⟩ => ⟨S256x128, .f32⟩
  | .local _ .vmem, ⟨12, _⟩ => ⟨S256x1, .f32⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_44 : Index := 0#32
  let c0_i32 : BitVec 32 := 0#32
  let c1_i32 : BitVec 32 := 1#32
  let arg11 : BitVec 32 := Scf.iv c0_i32 c1_i32 k0_t1
  let c32_i32_43 : BitVec 32 := 32#32
  let v126 : BitVec 32 := Scalar.muli arg11 c32_i32_43
  let v127 : Index := Scalar.indexCast v126
  let c0_45 : Index := 0#32
  ![0, v127.toNat, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let c4_i32_48 : BitVec 32 := 4#32
  let v138 : BitVec 32 := Scalar.muli arg11 c4_i32_48
  let v139 : Index := Scalar.indexCast v138
  let c0_49 : Index := 0#32
  let c0_50 : Index := 0#32
  ![v139.toNat, 0, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32_43 : BitVec 32 := 32#32
  let v126 : BitVec 32 := Scalar.muli arg11 c32_i32_43
  let v238 : Index := Scalar.indexCast v126
  let c0_51 : Index := 0#32
  ![v238.toNat, 0]
@[reducible] def k0_t2_loop : Scf.Loop 32 :=
  let c0_i32_6 : BitVec 32 := 0#32
  let c8_i32_7 : BitVec 32 := 8#32
  let v12 : BitVec 32 := Scalar.addi c0_i32_6 c8_i32_7
  let c1_i32_8 : BitVec 32 := 1#32
  ⟨c0_i32_6, v12, c1_i32_8⟩
def k0_off4 (k0_t2 : Fin k0_t2_loop.trips) : Fin 3 → Nat :=
  let c0_i32_6 : BitVec 32 := 0#32
  let c1_i32_8 : BitVec 32 := 1#32
  let arg11 : BitVec 32 := Scf.iv c0_i32_6 c1_i32_8 k0_t2
  let c4_i32_44 : BitVec 32 := 4#32
  let v127 : BitVec 32 := Scalar.muli arg11 c4_i32_44
  let v128 : Index := Scalar.indexCast v127
  let c0_45 : Index := 0#32
  let c0_46 : Index := 0#32
  ![v128.toNat, 0, 0]
def k0_off5 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c32_i32_43 : BitVec 32 := 32#32
  let v126 : BitVec 32 := Scalar.muli arg11 c32_i32_43
  let v133 : Index := Scalar.indexCast v126
  let c0_47 : Index := 0#32
  ![v133.toNat, 0]
def k0_off6 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c32_i32_43 : BitVec 32 := 32#32
  let v126 : BitVec 32 := Scalar.muli arg11 c32_i32_43
  let v141 : Index := Scalar.indexCast v126
  let c0_50 : Index := 0#32
  ![v141.toNat, 0]
def k0_off7 (k0_t2 : Fin k0_t2_loop.trips) : Fin 2 → Nat :=
  let c0_i32_6 : BitVec 32 := 0#32
  let c1_i32_8 : BitVec 32 := 1#32
  let arg11 : BitVec 32 := Scf.iv c0_i32_6 c1_i32_8 k0_t2
  let c32_i32_43 : BitVec 32 := 32#32
  let v126 : BitVec 32 := Scalar.muli arg11 c32_i32_43
  let v241 : Index := Scalar.indexCast v126
  let c0_51 : Index := 0#32
  ![v241.toNat, 0]
def k0_off8 (i : grid0.Coords) : Fin 2 → Nat :=
  let arg0 : BitVec 32 := BitVec.ofNat 32 (i 0).val
  let c8_i32_31 : BitVec 32 := 8#32
  let v100 : BitVec 32 := Scalar.muli arg0 c8_i32_31
  let arg1 : BitVec 32 := BitVec.ofNat 32 (i 1).val
  let v101 : BitVec 32 := Scalar.addi v100 arg1
  let c2_i32_37 : BitVec 32 := 2#32
  let v122 : BitVec 32 := Scalar.muli v101 c2_i32_37
  let v123 : Index := Scalar.indexCast v122
  let c0_38 : Index := 0#32
  ![v123.toNat, 0]
@[reducible] def k0_t3_loop : Scf.Loop 32 :=
  let c0_i32_39 : BitVec 32 := 0#32
  let c8_i32_40 : BitVec 32 := 8#32
  let v125 : BitVec 32 := Scalar.addi c0_i32_39 c8_i32_40
  let c1_i32_41 : BitVec 32 := 1#32
  ⟨c0_i32_39, v125, c1_i32_41⟩
def k0_off9 (k0_t3 : Fin k0_t3_loop.trips) : Fin 2 → Nat :=
  let c0_i32_39 : BitVec 32 := 0#32
  let c1_i32_41 : BitVec 32 := 1#32
  let arg11 : BitVec 32 := Scf.iv c0_i32_39 c1_i32_41 k0_t3
  let c32_i32_43 : BitVec 32 := 32#32
  let v126 : BitVec 32 := Scalar.muli arg11 c32_i32_43
  let v127 : Index := Scalar.indexCast v126
  let c0_44 : Index := 0#32
  ![v127.toNat, 0]
def k0_off10 (k0_t3 : Fin k0_t3_loop.trips) : Fin 2 → Nat :=
  let c0_i32_39 : BitVec 32 := 0#32
  let c1_i32_41 : BitVec 32 := 1#32
  let arg11 : BitVec 32 := Scf.iv c0_i32_39 c1_i32_41 k0_t3
  let c32_i32_43 : BitVec 32 := 32#32
  let v126 : BitVec 32 := Scalar.muli arg11 c32_i32_43
  let v129 : Index := Scalar.indexCast v126
  let c0_45 : Index := 0#32
  ![v129.toNat, 0]
def k0_off11 (k0_t3 : Fin k0_t3_loop.trips) : Fin 3 → Nat :=
  let c0_48 : Index := 0#32
  let c0_i32_39 : BitVec 32 := 0#32
  let c1_i32_41 : BitVec 32 := 1#32
  let arg11 : BitVec 32 := Scf.iv c0_i32_39 c1_i32_41 k0_t3
  let c32_i32_43 : BitVec 32 := 32#32
  let v126 : BitVec 32 := Scalar.muli arg11 c32_i32_43
  let v138 : Index := Scalar.indexCast v126
  let c0_49 : Index := 0#32
  ![0, v138.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x8x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x6144 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S4x2048x6144 : Shape := ⟨3, ![4, 2048, 6144]⟩
abbrev S6144 : Shape := ⟨1, ![6144]⟩
abbrev S_ : Shape := ⟨0, ![]⟩
abbrev S4x2048 : Shape := ⟨2, ![4, 2048]⟩
abbrev S4x2048x1 : Shape := ⟨3, ![4, 2048, 1]⟩
abbrev S1x1x6144 : Shape := ⟨3, ![1, 1, 6144]⟩
abbrev S1024x8x6144 : Shape := ⟨3, ![1024, 8, 6144]⟩
abbrev S64x128 : Shape := ⟨2, ![64, 128]⟩

abbrev nBuf : Space → Nat
  | .hbm => 67
  | .vmem => 2
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x6144, .bf16⟩
  | .hbm, ⟨2, _⟩ => ⟨S6144, .f32⟩
  | .hbm, ⟨3, _⟩ => ⟨S4x2048x6144, .f32⟩
  | .hbm, ⟨4, _⟩ => ⟨S4x2048x6144, .f32⟩
  | .hbm, ⟨5, _⟩ => ⟨S4x2048x6144, .f32⟩
  | .hbm, ⟨6, _⟩ => ⟨S4x2048x6144, .bf16⟩
  | .hbm, ⟨7, _⟩ => ⟨S4x2048x6144, .f32⟩
  | .hbm, ⟨8, _⟩ => ⟨S4x2048x6144, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x6144, .f32⟩
  | .hbm, ⟨20, _⟩ => ⟨S4x2048x6144, .f32⟩
  | .hbm, ⟨21, _⟩ => ⟨S1x1x6144, .f32⟩
  | .hbm, ⟨22, _⟩ => ⟨S4x2048x6144, .f32⟩
  | .hbm, ⟨23, _⟩ => ⟨S4x2048x6144, .f32⟩
  | .hbm, ⟨24, _⟩ => ⟨S4x2048x6144, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .i1⟩
  | .hbm, ⟨34, _⟩ => ⟨S4x2048x1, .f32⟩
  | .hbm, ⟨35, _⟩ => ⟨S_, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S_, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x6144, .f32⟩
  | .hbm, ⟨55, _⟩ => ⟨S4x2048x6144, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4x2048x6144, .f32⟩
  | .hbm, ⟨60, _⟩ => ⟨S4x2048x6144, .f32⟩
  | .hbm, ⟨61, _⟩ => ⟨S_, .f32⟩
  | .hbm, ⟨62, _⟩ => ⟨S4x2048x6144, .f32⟩
  | .hbm, ⟨63, _⟩ => ⟨S4x2048x6144, .f32⟩
  | .hbm, ⟨64, _⟩ => ⟨S1024x8x6144, .bf16⟩
  | .hbm, ⟨65, _⟩ => ⟨S64x128, .f32⟩
  | .hbm, ⟨66, _⟩ => ⟨S4x2048x6144, .fp8e4m3⟩
  | .local _ .vmem, ⟨0, _⟩ => ⟨S4x2048x6144, .f32⟩
  | .local _ .vmem, ⟨1, _⟩ => ⟨S4x2048x6144, .fp8e4m3⟩
  | _, _ => ⟨S4x2048x6144, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_cst_11 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x2048x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.FrameBody.lean ====
/-
  The deployed kernel's body at one grid point: it ends, and leaves its inputs unchanged.
-/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Run

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs: the inputs come back as they were, every other buffer at some contents. -/
theorem kernelRun (c : Dev nD) (i : grid0.Coords) (arg2 : Memref sig .tc .vmem S1x256x6144 .bf16) (harg2 : arg2.IsWhole) (arg3 : Memref sig .tc .vmem S1x256x6144 .bf16) (harg3 : arg3.IsWhole) (arg4 : Memref sig .tc .vmem S1x6144 .f32) (harg4 : arg4.IsWhole) (arg5 : Memref sig .tc .vmem S32x8x6144 .bf16) (harg5 : arg5.IsWhole) (arg6 : Memref sig .tc .vmem S1x256x6144 .fp8e4m3) (harg6 : arg6.IsWhole) (arg7 : Memref sig .tc .vmem S64x128 .f32) (harg7 : arg7.IsWhole) (arg8 : Memref sig .tc .vmem S256x6144 .f32) (harg8 : arg8.IsWhole) (arg9 : Memref sig .tc .vmem S256x128 .f32) (harg9 : arg9.IsWhole) (arg10 : Memref sig .tc .vmem S256x1 .f32) (harg10 : arg10.IsWhole)
    (x0 : Vec F S1x256x6144 .bf16) (x1 : Vec F S1x256x6144 .bf16) (x2 : Vec F S1x6144 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    intro E K
    simp only [cc0__body_eq_skeleton]; unfold cc0__body_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Run

end
-- ==== Proof.FrameRun.lean ====
/-
  The deployed kernel's run: it ends, its arguments unchanged, every counter at zero.
-/
module

public import proofs.«01_k».proof.Proof.FrameBody
public import Idealize.ShloMosaic.Lib.Claim

@[expose] public section

set_option maxRecDepth 16384

noncomputable section

namespace Cert.Kernel.Run

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`. -/
abbrev ms0_0 (t : Fin cfg0.N) : Memref sig .tc .vmem S1x256x6144 .bf16 := win0_0.stage (cfg0.slots t 0)
abbrev ms0_1 (t : Fin cfg0.N) : Memref sig .tc .vmem S1x256x6144 .bf16 := win0_1.stage (cfg0.slots t 1)
abbrev ms0_2 (t : Fin cfg0.N) : Memref sig .tc .vmem S1x6144 .f32 := win0_2.stage (cfg0.slots t 2)
abbrev ms0_3 (t : Fin cfg0.N) : Memref sig .tc .vmem S32x8x6144 .bf16 := win0_3.stage (cfg0.slots t 3)
abbrev ms0_4 (t : Fin cfg0.N) : Memref sig .tc .vmem S1x256x6144 .fp8e4m3 := win0_4.stage (cfg0.slots t 4)
abbrev ms0_5 (t : Fin cfg0.N) : Memref sig .tc .vmem S64x128 .f32 := win0_5.stage (cfg0.slots t 5)
/-- The scratch buffers as memrefs. -/
abbrev scM0_0 : Memref sig .tc .vmem S256x6144 .f32 := Memref.whole cc0_scratch0
abbrev scM0_1 : Memref sig .tc .vmem S256x128 .f32 := Memref.whole cc0_scratch1
abbrev scM0_2 : Memref sig .tc .vmem S256x1 .f32 := Memref.whole cc0_scratch2

/-- The invariant is the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The windows nothing is stated of: the three results. -/
def forgets0 : Fin 6 → Bool := fun w => w.val == 3 || w.val == 4 || w.val == 5

/-- The pipeline's data: inputs left in place, nothing stated of the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The arrays are the contents found at the launch. -/
theorem A_eq (c : Dev nD) (w : Fin cfg0.W) : (dats m 0 c).A w = V m c (Pipeline.arrRef spec0 w) := by
  dsimp only [dats]

/-- The inputs stay at their blocks. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's staging buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c)⟩) (run_main_quiescent m ρ)

/-- The kernel ends, its arguments unchanged, every counter at zero, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end
-- ==== Proof.LoopValues.lean ====
/-
  What one trip of each of the kernel's three counted loops stores, as values: the pieces the generated trips find, read
  over buffers at known contents.
-/
module

public import proofs.«01_k».proof.Proof.Gen.KernelIdeal.Frame
public import proofs.«01_k».proof.Proof.Gen.KernelIdeal.Loops
public import Idealize.ShloMosaic.Lib.Pipeline.Value

@[expose] public section

set_option maxRecDepth 16384

noncomputable section

namespace Cert.KernelIdeal.Run

open Cert.KernelIdeal Cert.KernelIdeal.Gen Idealize.ShloMosaic Idealize.ShloMosaic.TcCoe Idealize.ShloMosaic.Tactic Idealize.SL.Sem

variable {F : FTy → Type} [FloatOps F]

/-- The rows `32 k … 32 k + 31` of an input block. -/
abbrev rowsIn (k : Fin k0_t1_loop.trips) : Rect S1x256x6144 := Rect.unit (s := S1x256x6144) (k0_off1 k) S1x32x6144.size (k0_off1_inb k)

/-- The four tiles of eight rows of the sum's block that trip `k` writes. -/
abbrev tilesOut (k : Fin k0_t1_loop.trips) : Rect S32x8x6144 := Rect.unit (s := S32x8x6144) (k0_off2 k) S4x8x6144.size (k0_off2_inb k)

/-- The rows of the lane partials that trip `k` of the first loop writes. -/
abbrev rowsSq (k : Fin k0_t1_loop.trips) : Rect S256x128 := Rect.unit (s := S256x128) (k0_off3 k) S32x128.size (k0_off3_inb k)

/-- The four tiles of eight rows of the sum's block that trip `k` reads. -/
abbrev tilesIn (k : Fin k0_t2_loop.trips) : Rect S32x8x6144 := Rect.unit (s := S32x8x6144) (k0_off4 k) S4x8x6144.size (k0_off4_inb k)

/-- The rows of the row factors that trip `k` of the second loop reads. -/
abbrev rowsRms (k : Fin k0_t2_loop.trips) : Rect S256x1 := Rect.unit (s := S256x1) (k0_off5 k) S32x1.size (k0_off5_inb k)

/-- The rows of the scaled block that trip `k` of the second loop writes. -/
abbrev rowsY (k : Fin k0_t2_loop.trips) : Rect S256x6144 := Rect.unit (s := S256x6144) (k0_off6 k) S32x6144.size (k0_off6_inb k)

/-- The rows of the lane partials that trip `k` of the second loop writes. -/
abbrev rowsMax (k : Fin k0_t2_loop.trips) : Rect S256x128 := Rect.unit (s := S256x128) (k0_off7 k) S32x128.size (k0_off7_inb k)

/-- The rows of the scaled block that trip `k` of the third loop reads. -/
abbrev rowsY' (k : Fin k0_t3_loop.trips) : Rect S256x6144 := Rect.unit (s := S256x6144) (k0_off9 k) S32x6144.size (k0_off9_inb k)

/-- The rows of the row factors that trip `k` of the third loop reads. -/
abbrev rowsInv (k : Fin k0_t3_loop.trips) : Rect S256x1 := Rect.unit (s := S256x1) (k0_off10 k) S32x1.size (k0_off10_inb k)

/-- The rows of the codes that trip `k` writes. -/
abbrev rowsCodes (k : Fin k0_t3_loop.trips) : Rect S1x256x6144 := Rect.unit (s := S1x256x6144) (k0_off11 k) S1x32x6144.size (k0_off11_inb k)

/-- The whole gain row. -/
abbrev gainRow : Rect S1x6144 := Rect.unit (s := S1x6144) ![0, 0] S1x6144.size inb_S1x6144_S1x6144_0_0

/-- The lane partials of one group's squares. -/
def sqTrip (a b : Vec F S1x32x6144 .bf16) : FVec F S32x128 .f32 :=
  k0_pay14 (k0_pay4 a b) (k0_pay6 (k0_pay4 a b) (k0_pay5 a b))

/-- The lane partials of one group's absolute values. -/
def maxTrip (r : Vec F S4x8x6144 .bf16) (z : Vec F S32x1 .f32) (g : Vec F S1x6144 .f32) : FVec F S32x128 .f32 :=
  k0_pay16 (k0_pay9 r z g) (k0_pay12 (k0_pay9 r z g) (k0_pay10 r z g) (k0_pay11 r z g)) (k0_pay13 (k0_pay9 r z g))

variable (𝒱 : Variants) (c : Dev nD) (bd : Option 𝒱.V) (i : grid0.Coords)
  (arg2 : Memref sig .tc .vmem S1x256x6144 .bf16) (harg2 : arg2.IsWhole) (arg3 : Memref sig .tc .vmem S1x256x6144 .bf16) (harg3 : arg3.IsWhole) (arg4 : Memref sig .tc .vmem S1x6144 .f32) (harg4 : arg4.IsWhole) (arg5 : Memref sig .tc .vmem S32x8x6144 .bf16) (harg5 : arg5.IsWhole) (arg6 : Memref sig .tc .vmem S1x256x6144 .fp8e4m3) (harg6 : arg6.IsWhole) (arg7 : Memref sig .tc .vmem S64x128 .f32) (harg7 : arg7.IsWhole) (arg8 : Memref sig .tc .vmem S256x6144 .f32) (harg8 : arg8.IsWhole) (arg9 : Memref sig .tc .vmem S256x128 .f32) (harg9 : arg9.IsWhole) (arg10 : Memref sig .tc .vmem S256x1 .f32) (harg10 : arg10.IsWhole)

theorem trip1_eq (x y : Vec F S1x256x6144 .bf16) (k : Fin k0_t1_loop.trips) :
    tripL_k0_t1 (F := F) 𝒱 c bd i arg2 harg2 arg3 harg3 arg4 harg4 arg5 harg5 arg6 harg6 arg7 harg7 arg8 harg8 arg9 harg9 arg10 harg10 (harg2.unread x) (harg3.unread y) k
      = ([⟨tilesOut k, k0_pay3 (View.ld x (rowsIn k)) (View.ld y (rowsIn k))⟩],
         [⟨rowsSq k, sqTrip (View.ld x (rowsIn k)) (View.ld y (rowsIn k))⟩]) := by
  unfold tripL_k0_t1 trip_k0_t1
  dsimp only
  sl_unfold_words
  simp only [View.readAt_eq_ld, harg2.read_unread, harg3.read_unread]
  rfl

theorem trip2_eq (x : Vec F S1x6144 .f32) (y : Vec F S32x8x6144 .bf16) (z : Vec F S256x1 .f32) (k : Fin k0_t2_loop.trips) :
    tripL_k0_t2 (F := F) 𝒱 c bd i arg2 harg2 arg3 harg3 arg4 harg4 arg5 harg5 arg6 harg6 arg7 harg7 arg8 harg8 arg9 harg9 arg10 harg10 (harg4.unread x) (harg5.unread y) (harg10.unread z) k
      = ([⟨rowsY k, k0_pay8 (View.ld y (tilesIn k)) (View.ld z (rowsRms k)) (View.ld x gainRow)⟩],
         [⟨rowsMax k, maxTrip (View.ld y (tilesIn k)) (View.ld z (rowsRms k)) (View.ld x gainRow)⟩]) := by
  unfold tripL_k0_t2 trip_k0_t2
  dsimp only
  sl_unfold_words
  simp only [View.readAt_eq_ld, harg4.read_unread, harg5.read_unread, harg10.read_unread]
  rfl

theorem trip3_eq (x : Vec F S256x6144 .f32) (z : Vec F S256x1 .f32) (k : Fin k0_t3_loop.trips) :
    tripL_k0_t3 (F := F) 𝒱 c bd i arg2 harg2 arg3 harg3 arg4 harg4 arg5 harg5 arg6 harg6 arg7 harg7 arg8 harg8 arg9 harg9 arg10 harg10 (harg8.unread x) (harg10.unread z) k
      = [⟨rowsCodes k, k0_pay1 (View.ld x (rowsY' k)) (View.ld z (rowsInv k))⟩] := by
  unfold tripL_k0_t3 trip_k0_t3
  dsimp only
  sl_unfold_words
  simp only [View.readAt_eq_ld, harg8.read_unread, harg10.read_unread]
  rfl

end Cert.KernelIdeal.Run

end
-- ==== Proof.LoopRects.lean ====
/-
  Where an element of a group of rows sits in its block, that the groups cover the block, and what a block holds after
  one store per group.
-/
module

public import proofs.«01_k».proof.Proof.LoopValues
public import Idealize.ShloMosaic.Lib.Pointwise
public import Idealize.ShloMosaic.Lib.Writes

@[expose] public section

set_option maxRecDepth 16384

noncomputable section

namespace Cert.KernelIdeal.Run

open Cert.KernelIdeal Cert.KernelIdeal.Gen Idealize.ShloMosaic Idealize.ShloMosaic.TcCoe Idealize.ShloMosaic.Tactic Idealize.SL.Sem

/-- The `b`-th row of group `k` (groups of `n` rows) among all `N` rows. -/
abbrev row (n N : ℕ) (k : ℕ) (hk : k < 8) (b : Fin n) (h : 8 * n ≤ N) : Fin N := ⟨n * k + b.val, by have := b.isLt; nlinarith⟩

/-- A coordinate of an index inside a rectangle, in the whole block. -/
theorem emb_unit_val {s : Shape} {off : Fin s.rank → ℕ} (size d : Fin s.rank → ℕ) (inb : ∀ a, off a + size a ≤ s.size a)
    (h : off = d) (x : (Rect.unit (s := s) off size inb).shape.Idx) (a : Fin s.rank) :
    ((Rect.unit (s := s) off size inb).emb x a : ℕ) = d a + (x a : ℕ) := by
  subst h
  rw [Rect.emb_apply]
  show off a + 1 * (x a : ℕ) = _
  omega

/-- An index of a group of rows of a matrix, in the matrix. -/
theorem emb_rows {n N C : ℕ} {off : Fin 2 → ℕ} (k : ℕ) (hk : k < 8) (hN : 8 * n ≤ N)
    (inb : ∀ a, off a + (⟨2, ![n, C]⟩ : Shape).size a ≤ (⟨2, ![N, C]⟩ : Shape).size a) (h : off = ![n * k, 0]) (a0 : Fin n) (a1 : Fin C) :
    (Rect.unit (s := ⟨2, ![N, C]⟩) off (⟨2, ![n, C]⟩ : Shape).size inb).emb (ix2 a0 a1) = ix2 (row n N k hk a0 hN) a1 := by
  funext a
  apply Fin.ext
  match a with
  | ⟨0, _⟩ => exact emb_unit_val (s := ⟨2, ![N, C]⟩) _ _ inb h _ _
  | ⟨1, _⟩ => exact (emb_unit_val (s := ⟨2, ![N, C]⟩) _ _ inb h _ _).trans (Nat.zero_add _)

/-- An index of a group of rows of a block with a leading unit axis, in the block. -/
theorem emb_rows1 {n N C : ℕ} {off : Fin 3 → ℕ} (k : ℕ) (hk : k < 8) (hN : 8 * n ≤ N)
    (inb : ∀ a, off a + (⟨3, ![1, n, C]⟩ : Shape).size a ≤ (⟨3, ![1, N, C]⟩ : Shape).size a) (h : off = ![0, n * k, 0]) (a0 : Fin 1) (a1 : Fin n) (a2 : Fin C) :
    (Rect.unit (s := ⟨3, ![1, N, C]⟩) off (⟨3, ![1, n, C]⟩ : Shape).size inb).emb (ix3 a0 a1 a2) = ix3 a0 (row n N k hk a1 hN) a2 := by
  funext a
  apply Fin.ext
  match a with
  | ⟨0, _⟩ => exact (emb_unit_val (s := ⟨3, ![1, N, C]⟩) _ _ inb h _ _).trans (Nat.zero_add _)
  | ⟨1, _⟩ => exact emb_unit_val (s := ⟨3, ![1, N, C]⟩) _ _ inb h _ _
  | ⟨2, _⟩ => exact (emb_unit_val (s := ⟨3, ![1, N, C]⟩) _ _ inb h _ _).trans (Nat.zero_add _)

/-- An index of a group of tiles of a block of tiles, in the block. -/
theorem emb_tiles {n N B C : ℕ} {off : Fin 3 → ℕ} (k : ℕ) (hk : k < 8) (hN : 8 * n ≤ N)
    (inb : ∀ a, off a + (⟨3, ![n, B, C]⟩ : Shape).size a ≤ (⟨3, ![N, B, C]⟩ : Shape).size a) (h : off = ![n * k, 0, 0]) (a0 : Fin n) (a1 : Fin B) (a2 : Fin C) :
    (Rect.unit (s := ⟨3, ![N, B, C]⟩) off (⟨3, ![n, B, C]⟩ : Shape).size inb).emb (ix3 a0 a1 a2) = ix3 (row n N k hk a0 hN) a1 a2 := by
  funext a
  apply Fin.ext
  match a with
  | ⟨0, _⟩ => exact emb_unit_val (s := ⟨3, ![N, B, C]⟩) _ _ inb h _ _
  | ⟨1, _⟩ => exact (emb_unit_val (s := ⟨3, ![N, B, C]⟩) _ _ inb h _ _).trans (Nat.zero_add _)
  | ⟨2, _⟩ => exact (emb_unit_val (s := ⟨3, ![N, B, C]⟩) _ _ inb h _ _).trans (Nat.zero_add _)

/-- The groups of rows of a matrix cover it. -/
theorem cover_rows {n N C T : ℕ} (hn : 0 < n) (hN : N = n * T) (off : Fin T → Fin 2 → ℕ)
    (inb : ∀ k a, off k a + (⟨2, ![n, C]⟩ : Shape).size a ≤ (⟨2, ![N, C]⟩ : Shape).size a) (h : ∀ k, off k = ![n * k.val, 0]) (y : (⟨2, ![N, C]⟩ : Shape).Idx) :
    ∃ k, y ∈ (Rect.unit (s := ⟨2, ![N, C]⟩) (off k) (⟨2, ![n, C]⟩ : Shape).size (inb k)).set := by
  have h0 : (y 0).val < N := (y 0).isLt
  have h1 : (y 1).val < C := (y 1).isLt
  have hq : (y 0).val / n < T := Nat.div_lt_of_lt_mul (hN ▸ h0)
  refine ⟨⟨(y 0).val / n, hq⟩, Rect.mem_set_unit.mpr fun a => ?_⟩
  have hm := Nat.mod_lt (y 0).val hn
  have hd := Nat.div_add_mod (y 0).val n
  rw [show off ⟨(y 0).val / n, hq⟩ a = (![n * ((y 0).val / n), 0] : Fin 2 → ℕ) a from congrFun (h _) a]
  match a with
  | ⟨0, _⟩ => exact ⟨by show n * ((y 0).val / n) ≤ (y 0).val; omega, by show (y 0).val < n * ((y 0).val / n) + n; omega⟩
  | ⟨1, _⟩ => exact ⟨Nat.zero_le _, by show (y 1).val < 0 + C; omega⟩

/-- The groups of rows of a block with a leading unit axis cover it. -/
theorem cover_rows1 {n N C T : ℕ} (hn : 0 < n) (hN : N = n * T) (off : Fin T → Fin 3 → ℕ)
    (inb : ∀ k a, off k a + (⟨3, ![1, n, C]⟩ : Shape).size a ≤ (⟨3, ![1, N, C]⟩ : Shape).size a) (h : ∀ k, off k = ![0, n * k.val, 0]) (y : (⟨3, ![1, N, C]⟩ : Shape).Idx) :
    ∃ k, y ∈ (Rect.unit (s := ⟨3, ![1, N, C]⟩) (off k) (⟨3, ![1, n, C]⟩ : Shape).size (inb k)).set := by
  have h0 : (y 0).val < 1 := (y 0).isLt
  have h1 : (y 1).val < N := (y 1).isLt
  have h2 : (y 2).val < C := (y 2).isLt
  have hq : (y 1).val / n < T := Nat.div_lt_of_lt_mul (hN ▸ h1)
  refine ⟨⟨(y 1).val / n, hq⟩, Rect.mem_set_unit.mpr fun a => ?_⟩
  have hm := Nat.mod_lt (y 1).val hn
  have hd := Nat.div_add_mod (y 1).val n
  rw [show off ⟨(y 1).val / n, hq⟩ a = (![0, n * ((y 1).val / n), 0] : Fin 3 → ℕ) a from congrFun (h _) a]
  match a with
  | ⟨0, _⟩ => exact ⟨Nat.zero_le _, by show (y 0).val < 0 + 1; omega⟩
  | ⟨1, _⟩ => exact ⟨by show n * ((y 1).val / n) ≤ (y 1).val; omega, by show (y 1).val < n * ((y 1).val / n) + n; omega⟩
  | ⟨2, _⟩ => exact ⟨Nat.zero_le _, by show (y 2).val < 0 + C; omega⟩

/-- The groups of tiles of a block of tiles cover it. -/
theorem cover_tiles {n N B C T : ℕ} (hn : 0 < n) (hN : N = n * T) (off : Fin T → Fin 3 → ℕ)
    (inb : ∀ k a, off k a + (⟨3, ![n, B, C]⟩ : Shape).size a ≤ (⟨3, ![N, B, C]⟩ : Shape).size a) (h : ∀ k, off k = ![n * k.val, 0, 0]) (y : (⟨3, ![N, B, C]⟩ : Shape).Idx) :
    ∃ k, y ∈ (Rect.unit (s := ⟨3, ![N, B, C]⟩) (off k) (⟨3, ![n, B, C]⟩ : Shape).size (inb k)).set := by
  have h0 : (y 0).val < N := (y 0).isLt
  have h1 : (y 1).val < B := (y 1).isLt
  have h2 : (y 2).val < C := (y 2).isLt
  have hq : (y 0).val / n < T := Nat.div_lt_of_lt_mul (hN ▸ h0)
  refine ⟨⟨(y 0).val / n, hq⟩, Rect.mem_set_unit.mpr fun a => ?_⟩
  have hm := Nat.mod_lt (y 0).val hn
  have hd := Nat.div_add_mod (y 0).val n
  rw [show off ⟨(y 0).val / n, hq⟩ a = (![n * ((y 0).val / n), 0, 0] : Fin 3 → ℕ) a from congrFun (h _) a]
  match a with
  | ⟨0, _⟩ => exact ⟨by show n * ((y 0).val / n) ≤ (y 0).val; omega, by show (y 0).val < n * ((y 0).val / n) + n; omega⟩
  | ⟨1, _⟩ => exact ⟨Nat.zero_le _, by show (y 1).val < 0 + B; omega⟩
  | ⟨2, _⟩ => exact ⟨Nat.zero_le _, by show (y 2).val < 0 + C; omega⟩

/-- A block read after the pieces of a counted loop's trips, one per trip: where every piece is its part of `G` and the
    pieces cover the block, it is `G`. -/
theorem read_pieces {S : Shape} {e : EltTy} {Val : EltTy → Type} {T : ℕ} {sg : RefSig} {κ : Kind} {sp : Space} (v : View sg κ sp S e) (f : v.ty.Contents Val)
    (pb : ℕ → List (View.Piece Val S e)) (pc : Fin T → View.Piece Val S e) (h0 : pb 0 = [])
    (hs : ∀ k : Fin T, pb (k.val + 1) = [pc k] ++ pb k.val) (G : S.Idx → Val e)
    (hG : ∀ k x, (pc k).2 x = G ((pc k).1.emb x)) (hc : ∀ y, ∃ k, y ∈ (pc k).1.set) : v.read Val (v.writes Val f (pb T)) = G := by
  have hmem : ∀ n ≤ T, ∀ p, p ∈ pb n ↔ ∃ k : Fin T, k.val < n ∧ p = pc k := by
    intro n
    induction n with
    | zero => intro _ p; rw [h0]; simp
    | succ n ih =>
      intro hn p
      rw [hs ⟨n, by omega⟩]
      show p ∈ [pc ⟨n, _⟩] ++ pb n ↔ _
      rw [List.mem_append, List.mem_singleton, ih (by omega)]
      constructor
      · rintro (rfl | ⟨k, hk, rfl⟩)
        · exact ⟨⟨n, by omega⟩, by simp, rfl⟩
        · exact ⟨k, by omega, rfl⟩
      · rintro ⟨k, hk, rfl⟩
        rcases Nat.lt_succ_iff_lt_or_eq.mp hk with hk | hk
        · exact .inr ⟨k, hk, rfl⟩
        · left; congr 1; exact Fin.ext hk
  funext y
  refine View.read_writes_apply_of_pieces v f G _ (fun p hp x => ?_) y ?_
  · obtain ⟨k, -, rfl⟩ := (hmem T le_rfl p).mp hp
    exact hG k x
  · obtain ⟨k, hk⟩ := hc y
    exact ⟨pc k, (hmem T le_rfl _).mpr ⟨k, k.isLt, rfl⟩, hk⟩

end Cert.KernelIdeal.Run

end
-- ==== Proof.Lanes.lean ====
/-
  Forty-eight terms added, or compared, one after the other.
-/
module

public import Idealize.ShloMosaic.Lib.Pointwise

@[expose] public section

set_option maxRecDepth 16384

noncomputable section

namespace Cert.KernelIdeal.Run

open Idealize.ShloMosaic Idealize.ShloMosaic.TcCoe Idealize.ShloMosaic.Tactic Idealize.SL.Sem

open scoped BigOperators

/-- The sum of forty-eight terms, term by term. -/
theorem sum48 (f : Fin 48 → EReal) :
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 + f 32 + f 33 + f 34 + f 35 + f 36 + f 37 + f 38 + f 39 + f 40 + f 41 + f 42 + f 43 + f 44 + f 45 + f 46 + f 47 = ∑ c, f c := by
  simp only [Fin.sum_univ_castSucc, Fin.sum_univ_zero, zero_add]
  rfl

/-- A supremum over `n + 1` indices: the last one apart. -/
theorem sup_castSucc {n : ℕ} (f : Fin (n + 1) → EReal) :
    Finset.univ.sup f = max (Finset.univ.sup fun i => f (Fin.castSucc i)) (f (Fin.last n)) := by
  rw [Fin.univ_castSuccEmb, Finset.sup_cons, Finset.sup_map, sup_comm]
  rfl

/-- The supremum of forty-eight terms, term by term. -/
theorem max48 (f : Fin 48 → EReal) :
    max (max (max (max (max (max (max (max (max (max (max (max (max (max (max (max (max (max (max (max (max (max (max (max (max (max (max (max (max (max (max (max (max (max (max (max (max (max (max (max (max (max (max (max (max (max (max (f 0) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23)) (f 24)) (f 25)) (f 26)) (f 27)) (f 28)) (f 29)) (f 30)) (f 31)) (f 32)) (f 33)) (f 34)) (f 35)) (f 36)) (f 37)) (f 38)) (f 39)) (f 40)) (f 41)) (f 42)) (f 43)) (f 44)) (f 45)) (f 46)) (f 47) = Finset.univ.sup f := by
  simp only [sup_castSucc, Finset.univ_eq_empty, Finset.sup_empty, bot_le, max_eq_right]
  rfl

end Cert.KernelIdeal.Run

end
-- ==== Proof.LoopForms.lean ====
/-
  The blocks the three loops leave, element by element over the extended reals, and that what a trip stores is its part of
  the block.
-/
module

public import proofs.«01_k».proof.Proof.LoopRects
public import proofs.«01_k».proof.Proof.Lanes

@[expose] public section

set_option maxRecDepth 16384

noncomputable section

namespace Cert.KernelIdeal.Run

open Cert.KernelIdeal Cert.KernelIdeal.Gen Idealize.ShloMosaic Idealize.ShloMosaic.TcCoe Idealize.ShloMosaic.Tactic Idealize.SL.Sem

open scoped BigOperators

/-- The residual sum of a block, row by row. -/
def rSum (x y : Vec Ideal S1x256x6144 .bf16) (a : Fin 256) (b : Fin 6144) : EReal := x (ix3 0 a b) + y (ix3 0 a b)

/-- Row `8 p + q` of the 256. -/
abbrev tileRow (p : Fin 32) (q : Fin 8) : Fin 256 := ⟨8 * p.val + q.val, by omega⟩

/-- Column `128 c + l` of the 6144. -/
abbrev lane (c : Fin 48) (l : Fin 128) : Fin 6144 := ⟨128 * c.val + l.val, by omega⟩

/-- The residual sum as the first loop leaves it: in tiles of eight rows. -/
def rB (x y : Vec Ideal S1x256x6144 .bf16) : Vec Ideal S32x8x6144 .bf16 := fun j =>
  rSum x y (tileRow (j 0) (j 1)) (j 2)

/-- The lane partials of the squares. -/
def sqB (x y : Vec Ideal S1x256x6144 .bf16) : Vec Ideal S256x128 .f32 := fun j =>
  ∑ c : Fin 48, rSum x y (j 0) (lane c (j 1)) * rSum x y (j 0) (lane c (j 1))

/-- The normalised block, from the sum in tiles, the row factors and the gain. -/
def yB (r : Vec Ideal S32x8x6144 .bf16) (z : Vec Ideal S256x1 .f32) (g : Vec Ideal S1x6144 .f32) : Vec Ideal S256x6144 .f32 := fun j =>
  r (ix3 (n0 := 32) (n1 := 8) (n2 := 6144) ⟨(j 0).val / 8, by have h : (j 0).val < 256 := (j 0).isLt; omega⟩ ⟨(j 0).val % 8, by omega⟩ (j 1)) * z (ix2 (n0 := 256) (n1 := 1) (j 0) 0) * g (ix2 (n0 := 1) (n1 := 6144) 0 (j 1))

/-- The lane maxima of the absolute values. -/
def maxB (y : Vec Ideal S256x6144 .f32) : Vec Ideal S256x128 .f32 := fun j =>
  Finset.univ.sup fun c : Fin 48 => max (y (ix2 (n0 := 256) (n1 := 6144) (j 0) (lane c (j 1)))) (-y (ix2 (n0 := 256) (n1 := 6144) (j 0) (lane c (j 1))))

/-- The codes. -/
def codesB (y : Vec Ideal S256x6144 .f32) (z : Vec Ideal S256x1 .f32) : Vec Ideal S1x256x6144 .fp8e4m3 := fun j =>
  k0_pay1 (F := Ideal) (fun _ => y (ix2 (n0 := 256) (n1 := 6144) (j 1) (j 2))) (fun _ => z (ix2 (n0 := 256) (n1 := 1) (j 1) 0)) (ix3 0 0 0)

theorem ld_in (v : Vec Ideal S1x256x6144 .bf16) (k : Fin k0_t1_loop.trips) (p : Fin 32) (q : Fin 6144) :
    View.ld (Val := Elt Ideal) v (rowsIn k) (ix3 0 p q) = v (ix3 0 (row 32 256 k.val (lt_of_lt_of_le k.isLt k0_t1_abs.2.1) p (by norm_num)) q) :=
  congrArg v (emb_rows1 (n := 32) (N := 256) k.val _ (by norm_num) (k0_off1_inb k) (k0_off1_eq k) 0 p q)

theorem ld_tiles (v : Vec Ideal S32x8x6144 .bf16) (k : Fin k0_t2_loop.trips) (p : Fin 4) (q : Fin 8) (u : Fin 6144) :
    View.ld (Val := Elt Ideal) v (tilesIn k) (ix3 p q u) = v (ix3 (row 4 32 k.val (lt_of_lt_of_le k.isLt k0_t2_abs.2.1) p (by norm_num)) q u) :=
  congrArg v (emb_tiles (n := 4) (N := 32) k.val _ (by norm_num) (k0_off4_inb k) (k0_off4_eq k) p q u)

theorem ld_rms (v : Vec Ideal S256x1 .f32) (k : Fin k0_t2_loop.trips) (p : Fin 32) (q : Fin 1) :
    View.ld (Val := Elt Ideal) v (rowsRms k) (ix2 p q) = v (ix2 (row 32 256 k.val (lt_of_lt_of_le k.isLt k0_t2_abs.2.1) p (by norm_num)) q) :=
  congrArg v (emb_rows (n := 32) (N := 256) k.val _ (by norm_num) (k0_off5_inb k) (k0_off5_eq k) p q)

theorem ld_y (v : Vec Ideal S256x6144 .f32) (k : Fin k0_t3_loop.trips) (p : Fin 32) (q : Fin 6144) :
    View.ld (Val := Elt Ideal) v (rowsY' k) (ix2 p q) = v (ix2 (row 32 256 k.val (lt_of_lt_of_le k.isLt k0_t3_abs.2.1) p (by norm_num)) q) :=
  congrArg v (emb_rows (n := 32) (N := 256) k.val _ (by norm_num) (k0_off9_inb k) (k0_off9_eq k) p q)

theorem ld_inv (v : Vec Ideal S256x1 .f32) (k : Fin k0_t3_loop.trips) (p : Fin 32) (q : Fin 1) :
    View.ld (Val := Elt Ideal) v (rowsInv k) (ix2 p q) = v (ix2 (row 32 256 k.val (lt_of_lt_of_le k.isLt k0_t3_abs.2.1) p (by norm_num)) q) :=
  congrArg v (emb_rows (n := 32) (N := 256) k.val _ (by norm_num) (k0_off10_inb k) (k0_off10_eq k) p q)

theorem ld_gain (v : Vec Ideal S1x6144 .f32) (q : Fin 6144) :
    View.ld (Val := Elt Ideal) v gainRow (ix2 0 q) = v (ix2 0 q) := by
  pointwise

theorem rB_piece (x y : Vec Ideal S1x256x6144 .bf16) (k : Fin k0_t1_loop.trips) (j : S4x8x6144.Idx) :
    k0_pay3 (F := Ideal) (View.ld x (rowsIn k)) (View.ld y (rowsIn k)) j = rB x y ((tilesOut k).emb j) := by
  have hk := lt_of_lt_of_le k.isLt k0_t1_abs.2.1
  have h (a b : Vec Ideal S1x32x6144 .bf16) (p : Fin 4) (q : Fin 8) (u : Fin 6144) :
      k0_pay3 (F := Ideal) a b (ix3 p q u) = a (ix3 0 ⟨p.val * 8 + q.val, by omega⟩ u) + b (ix3 0 ⟨p.val * 8 + q.val, by omega⟩ u) := by
    pointwise [k0_pay3, k0_pay2]
  idx_vars j
  rw [show (tilesOut k).emb (ix3 j0 j1 j2) = _ from emb_tiles (n := 4) (N := 32) k.val hk (by norm_num) (k0_off2_inb k) (k0_off2_eq k) j0 j1 j2]
  refine (h _ _ j0 j1 j2).trans ?_
  rw [ld_in, ld_in, show row 32 256 k.val hk ⟨j0.val * 8 + j1.val, by omega⟩ (by norm_num) = tileRow (row 4 32 k.val hk j0 (by norm_num)) j1 from Fin.ext (by show _ = 8 * (4 * k.val + j0.val) + j1.val; show 32 * k.val + (j0.val * 8 + j1.val) = _; omega)]
  rfl

theorem lane_zero (l : Fin 128) : lane 0 l = ⟨l.val, by omega⟩ := Fin.ext (by simp)

theorem sqTrip_apply (a b : Vec Ideal S1x32x6144 .bf16) (p : Fin 32) (l : Fin 128) :
    sqTrip (F := Ideal) a b (ix2 p l) = ∑ c : Fin 48, (a (ix3 0 p (lane c l)) + b (ix3 0 p (lane c l))) * (a (ix3 0 p (lane c l)) + b (ix3 0 p (lane c l))) := by
  have h4 : ∀ q : Fin 6144, k0_pay4 (F := Ideal) a b (ix2 p q) = (a (ix3 0 p q) + b (ix3 0 p q)) * (a (ix3 0 p q) + b (ix3 0 p q)) := fun q => by
    pointwise [k0_pay4, k0_pay2]
  simp only [← h4]
  rw [← sum48, lane_zero]
  pointwise [sqTrip, k0_pay14, k0_pay6, k0_pay5]
  rfl

theorem sqB_piece (x y : Vec Ideal S1x256x6144 .bf16) (k : Fin k0_t1_loop.trips) (j : S32x128.Idx) :
    sqTrip (F := Ideal) (View.ld x (rowsIn k)) (View.ld y (rowsIn k)) j = sqB x y ((rowsSq k).emb j) := by
  have hk := lt_of_lt_of_le k.isLt k0_t1_abs.2.1
  idx_vars j
  rw [show (rowsSq k).emb (ix2 j0 j1) = _ from emb_rows (n := 32) (N := 256) k.val hk (by norm_num) (k0_off3_inb k) (k0_off3_eq k) j0 j1]
  rw [sqTrip_apply]
  exact Finset.sum_congr rfl fun c _ => congrArg₂ (fun p q : EReal => (p + q) * (p + q)) (ld_in x k j0 _) (ld_in y k j0 _)

theorem yB_piece (r : Vec Ideal S32x8x6144 .bf16) (z : Vec Ideal S256x1 .f32) (g : Vec Ideal S1x6144 .f32) (k : Fin k0_t2_loop.trips) (j : S32x6144.Idx) :
    k0_pay8 (F := Ideal) (View.ld r (tilesIn k)) (View.ld z (rowsRms k)) (View.ld g gainRow) j = yB r z g ((rowsY k).emb j) := by
  have hk := lt_of_lt_of_le k.isLt k0_t2_abs.2.1
  idx_vars j
  rw [show (rowsY k).emb (ix2 j0 j1) = _ from emb_rows (n := 32) (N := 256) k.val hk (by norm_num) (k0_off6_inb k) (k0_off6_eq k) j0 j1]
  have h (a : Vec Ideal S4x8x6144 .bf16) (b : Vec Ideal S32x1 .f32) (d : Vec Ideal S1x6144 .f32) (p : Fin 32) (q : Fin 6144) :
      k0_pay8 (F := Ideal) a b d (ix2 p q) = a (ix3 ⟨p.val / 8, by omega⟩ ⟨p.val % 8, by omega⟩ q) * b (ix2 p 0) * d (ix2 0 q) := by
    pointwise [k0_pay8, k0_pay7]
  refine (h _ _ _ j0 j1).trans ?_
  rw [ld_tiles, ld_rms, ld_gain]
  have e0 : (32 * k.val + j0.val) / 8 = 4 * k.val + j0.val / 8 := by omega
  have e1 : (32 * k.val + j0.val) % 8 = j0.val % 8 := by omega
  show _ = r (ix3 ⟨(32 * k.val + j0.val) / 8, _⟩ ⟨(32 * k.val + j0.val) % 8, _⟩ j1) * _ * _
  simp only [e0, e1]
  rfl

theorem maxTrip_apply (r : Vec Ideal S4x8x6144 .bf16) (z : Vec Ideal S32x1 .f32) (g : Vec Ideal S1x6144 .f32) (p : Fin 32) (l : Fin 128) :
    maxTrip (F := Ideal) r z g (ix2 p l)
      = Finset.univ.sup fun c : Fin 48 => max (k0_pay8 (F := Ideal) r z g (ix2 p (lane c l))) (-(k0_pay8 (F := Ideal) r z g (ix2 p (lane c l)))) := by
  have h9 : ∀ q : Fin 6144, k0_pay9 (F := Ideal) r z g (ix2 p q) = max (k0_pay8 (F := Ideal) r z g (ix2 p q)) (-(k0_pay8 (F := Ideal) r z g (ix2 p q))) := fun q => by
    pointwise [k0_pay9, k0_pay8]
    try rfl
  simp only [← h9]
  rw [← max48, lane_zero]
  pointwise [maxTrip, k0_pay16, k0_pay13, k0_pay12, k0_pay11, k0_pay10]
  rfl

theorem maxB_piece (r : Vec Ideal S32x8x6144 .bf16) (z : Vec Ideal S256x1 .f32) (g : Vec Ideal S1x6144 .f32) (k : Fin k0_t2_loop.trips) (j : S32x128.Idx) :
    maxTrip (F := Ideal) (View.ld r (tilesIn k)) (View.ld z (rowsRms k)) (View.ld g gainRow) j = maxB (yB r z g) ((rowsMax k).emb j) := by
  have hk := lt_of_lt_of_le k.isLt k0_t2_abs.2.1
  idx_vars j
  rw [show (rowsMax k).emb (ix2 j0 j1) = _ from emb_rows (n := 32) (N := 256) k.val hk (by norm_num) (k0_off7_inb k) (k0_off7_eq k) j0 j1]
  rw [maxTrip_apply]
  simp only [yB_piece]
  have e (q : Fin 6144) : (rowsY k).emb (ix2 j0 q) = ix2 (row 32 256 k.val hk j0 (by norm_num)) q :=
    emb_rows (n := 32) (N := 256) k.val hk (by norm_num) (k0_off6_inb k) (k0_off6_eq k) j0 q
  simp only [e]
  rfl

theorem codesB_piece (y : Vec Ideal S256x6144 .f32) (z : Vec Ideal S256x1 .f32) (k : Fin k0_t3_loop.trips) (j : S1x32x6144.Idx) :
    k0_pay1 (F := Ideal) (View.ld y (rowsY' k)) (View.ld z (rowsInv k)) j = codesB y z ((rowsCodes k).emb j) := by
  have hk := lt_of_lt_of_le k.isLt k0_t3_abs.2.1
  idx_vars j
  rw [show (rowsCodes k).emb (ix3 j0 j1 j2) = _ from emb_rows1 (n := 32) (N := 256) k.val hk (by norm_num) (k0_off11_inb k) (k0_off11_eq k) j0 j1 j2]
  have h (a : Vec Ideal S32x6144 .f32) (b : Vec Ideal S32x1 .f32) (p : Fin 32) (q : Fin 6144) :
      k0_pay1 (F := Ideal) a b (ix3 0 p q) = k0_pay1 (F := Ideal) (fun _ => a (ix2 p q)) (fun _ => b (ix2 p 0)) (ix3 0 0 0) := by
    pointwise [k0_pay1]
  obtain rfl : j0 = 0 := Subsingleton.elim _ _
  refine (h _ _ j1 j2).trans ?_
  rw [ld_y, ld_inv]
  rfl

end Cert.KernelIdeal.Run

end
-- ==== Proof.LoopExits.lean ====
/-
  The buffers after each counted loop, in closed form, and what a run goes on with.
-/
module

public import proofs.«01_k».proof.Proof.LoopForms

@[expose] public section

set_option maxRecDepth 16384

noncomputable section

namespace Cert.KernelIdeal.Run

open Cert.KernelIdeal Cert.KernelIdeal.Gen Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
variable (𝒱 : Variants) (c : Dev nD) (bd : Option 𝒱.V) (i : grid0.Coords)
  (arg2 : Memref sig .tc .vmem S1x256x6144 .bf16) (harg2 : arg2.IsWhole) (arg3 : Memref sig .tc .vmem S1x256x6144 .bf16) (harg3 : arg3.IsWhole) (arg4 : Memref sig .tc .vmem S1x6144 .f32) (harg4 : arg4.IsWhole) (arg5 : Memref sig .tc .vmem S32x8x6144 .bf16) (harg5 : arg5.IsWhole) (arg6 : Memref sig .tc .vmem S1x256x6144 .fp8e4m3) (harg6 : arg6.IsWhole) (arg7 : Memref sig .tc .vmem S64x128 .f32) (harg7 : arg7.IsWhole) (arg8 : Memref sig .tc .vmem S256x6144 .f32) (harg8 : arg8.IsWhole) (arg9 : Memref sig .tc .vmem S256x128 .f32) (harg9 : arg9.IsWhole) (arg10 : Memref sig .tc .vmem S256x1 .f32) (harg10 : arg10.IsWhole)
/-! What each written buffer holds after all eight trips. -/

theorem after1_sum (X2 : BufTy.Contents (Elt Ideal) arg2.view.ty) (X3 : BufTy.Contents (Elt Ideal) arg3.view.ty) (g : BufTy.Contents (Elt Ideal) arg5.view.ty) :
    arg5.view.writes (Elt Ideal) g (pb_k0_t1 (F := Ideal) 𝒱 c bd i arg2 harg2 arg3 harg3 arg4 harg4 arg5 harg5 arg6 harg6 arg7 harg7 arg8 harg8 arg9 harg9 arg10 harg10 X2 X3 k0_t1_loop.trips).1
      = harg5.unread (rB (arg2.view.read (Elt Ideal) X2) (arg3.view.read (Elt Ideal) X3)) := by
  obtain ⟨x2, rfl⟩ : ∃ x, X2 = harg2.unread (Val := Elt Ideal) x := ⟨_, (harg2.eq_unread rfl)⟩
  obtain ⟨x3, rfl⟩ : ∃ x, X3 = harg3.unread (Val := Elt Ideal) x := ⟨_, (harg3.eq_unread rfl)⟩
  simp only [harg2.read_unread, harg3.read_unread]
  refine harg5.eq_unread (read_pieces _ _ (fun n => (pb_k0_t1 (F := Ideal) 𝒱 c bd i arg2 harg2 arg3 harg3 arg4 harg4 arg5 harg5 arg6 harg6 arg7 harg7 arg8 harg8 arg9 harg9 arg10 harg10 (harg2.unread x2) (harg3.unread x3) n).1)
    (fun k => ⟨tilesOut k, k0_pay3 (View.ld x2 (rowsIn k)) (View.ld x3 (rowsIn k))⟩) rfl (fun k => ?_) _ (fun k j => rB_piece x2 x3 k j) ?_)
  · show (pb_k0_t1 (F := Ideal) 𝒱 c bd i arg2 harg2 arg3 harg3 arg4 harg4 arg5 harg5 arg6 harg6 arg7 harg7 arg8 harg8 arg9 harg9 arg10 harg10 (harg2.unread x2) (harg3.unread x3) (k.val + 1)).1 = _
    rw [pb_k0_t1_succ, trip1_eq]
  · exact cover_tiles (T := k0_t1_loop.trips) (by norm_num) (by decide) k0_off2 k0_off2_inb k0_off2_eq

theorem after1_sq (X2 : BufTy.Contents (Elt Ideal) arg2.view.ty) (X3 : BufTy.Contents (Elt Ideal) arg3.view.ty) (g : BufTy.Contents (Elt Ideal) arg9.view.ty) :
    arg9.view.writes (Elt Ideal) g (pb_k0_t1 (F := Ideal) 𝒱 c bd i arg2 harg2 arg3 harg3 arg4 harg4 arg5 harg5 arg6 harg6 arg7 harg7 arg8 harg8 arg9 harg9 arg10 harg10 X2 X3 k0_t1_loop.trips).2
      = harg9.unread (sqB (arg2.view.read (Elt Ideal) X2) (arg3.view.read (Elt Ideal) X3)) := by
  obtain ⟨x2, rfl⟩ : ∃ x, X2 = harg2.unread (Val := Elt Ideal) x := ⟨_, (harg2.eq_unread rfl)⟩
  obtain ⟨x3, rfl⟩ : ∃ x, X3 = harg3.unread (Val := Elt Ideal) x := ⟨_, (harg3.eq_unread rfl)⟩
  simp only [harg2.read_unread, harg3.read_unread]
  refine harg9.eq_unread (read_pieces _ _ (fun n => (pb_k0_t1 (F := Ideal) 𝒱 c bd i arg2 harg2 arg3 harg3 arg4 harg4 arg5 harg5 arg6 harg6 arg7 harg7 arg8 harg8 arg9 harg9 arg10 harg10 (harg2.unread x2) (harg3.unread x3) n).2)
    (fun k => ⟨rowsSq k, sqTrip (View.ld x2 (rowsIn k)) (View.ld x3 (rowsIn k))⟩) rfl (fun k => ?_) _ (fun k j => sqB_piece x2 x3 k j) ?_)
  · show (pb_k0_t1 (F := Ideal) 𝒱 c bd i arg2 harg2 arg3 harg3 arg4 harg4 arg5 harg5 arg6 harg6 arg7 harg7 arg8 harg8 arg9 harg9 arg10 harg10 (harg2.unread x2) (harg3.unread x3) (k.val + 1)).2 = _
    rw [pb_k0_t1_succ, trip1_eq]
  · exact cover_rows (T := k0_t1_loop.trips) (by norm_num) (by decide) k0_off3 k0_off3_inb k0_off3_eq

theorem after2_y (X4 : BufTy.Contents (Elt Ideal) arg4.view.ty) (X5 : BufTy.Contents (Elt Ideal) arg5.view.ty) (X10 : BufTy.Contents (Elt Ideal) arg10.view.ty) (g : BufTy.Contents (Elt Ideal) arg8.view.ty) :
    arg8.view.writes (Elt Ideal) g (pb_k0_t2 (F := Ideal) 𝒱 c bd i arg2 harg2 arg3 harg3 arg4 harg4 arg5 harg5 arg6 harg6 arg7 harg7 arg8 harg8 arg9 harg9 arg10 harg10 X4 X5 X10 k0_t2_loop.trips).1
      = harg8.unread (yB (arg5.view.read (Elt Ideal) X5) (arg10.view.read (Elt Ideal) X10) (arg4.view.read (Elt Ideal) X4)) := by
  obtain ⟨x4, rfl⟩ : ∃ x, X4 = harg4.unread (Val := Elt Ideal) x := ⟨_, (harg4.eq_unread rfl)⟩
  obtain ⟨x5, rfl⟩ : ∃ x, X5 = harg5.unread (Val := Elt Ideal) x := ⟨_, (harg5.eq_unread rfl)⟩
  obtain ⟨x10, rfl⟩ : ∃ x, X10 = harg10.unread (Val := Elt Ideal) x := ⟨_, (harg10.eq_unread rfl)⟩
  simp only [harg4.read_unread, harg5.read_unread, harg10.read_unread]
  refine harg8.eq_unread (read_pieces _ _ (fun n => (pb_k0_t2 (F := Ideal) 𝒱 c bd i arg2 harg2 arg3 harg3 arg4 harg4 arg5 harg5 arg6 harg6 arg7 harg7 arg8 harg8 arg9 harg9 arg10 harg10 (harg4.unread x4) (harg5.unread x5) (harg10.unread x10) n).1)
    (fun k => ⟨rowsY k, k0_pay8 (View.ld x5 (tilesIn k)) (View.ld x10 (rowsRms k)) (View.ld x4 gainRow)⟩) rfl (fun k => ?_) _ (fun k j => yB_piece x5 x10 x4 k j) ?_)
  · show (pb_k0_t2 (F := Ideal) 𝒱 c bd i arg2 harg2 arg3 harg3 arg4 harg4 arg5 harg5 arg6 harg6 arg7 harg7 arg8 harg8 arg9 harg9 arg10 harg10 (harg4.unread x4) (harg5.unread x5) (harg10.unread x10) (k.val + 1)).1 = _
    rw [pb_k0_t2_succ, trip2_eq]
  · exact cover_rows (T := k0_t2_loop.trips) (by norm_num) (by decide) k0_off6 k0_off6_inb k0_off6_eq

theorem after2_max (X4 : BufTy.Contents (Elt Ideal) arg4.view.ty) (X5 : BufTy.Contents (Elt Ideal) arg5.view.ty) (X10 : BufTy.Contents (Elt Ideal) arg10.view.ty) (g : BufTy.Contents (Elt Ideal) arg9.view.ty) :
    arg9.view.writes (Elt Ideal) g (pb_k0_t2 (F := Ideal) 𝒱 c bd i arg2 harg2 arg3 harg3 arg4 harg4 arg5 harg5 arg6 harg6 arg7 harg7 arg8 harg8 arg9 harg9 arg10 harg10 X4 X5 X10 k0_t2_loop.trips).2
      = harg9.unread (maxB (yB (arg5.view.read (Elt Ideal) X5) (arg10.view.read (Elt Ideal) X10) (arg4.view.read (Elt Ideal) X4))) := by
  obtain ⟨x4, rfl⟩ : ∃ x, X4 = harg4.unread (Val := Elt Ideal) x := ⟨_, (harg4.eq_unread rfl)⟩
  obtain ⟨x5, rfl⟩ : ∃ x, X5 = harg5.unread (Val := Elt Ideal) x := ⟨_, (harg5.eq_unread rfl)⟩
  obtain ⟨x10, rfl⟩ : ∃ x, X10 = harg10.unread (Val := Elt Ideal) x := ⟨_, (harg10.eq_unread rfl)⟩
  simp only [harg4.read_unread, harg5.read_unread, harg10.read_unread]
  refine harg9.eq_unread (read_pieces _ _ (fun n => (pb_k0_t2 (F := Ideal) 𝒱 c bd i arg2 harg2 arg3 harg3 arg4 harg4 arg5 harg5 arg6 harg6 arg7 harg7 arg8 harg8 arg9 harg9 arg10 harg10 (harg4.unread x4) (harg5.unread x5) (harg10.unread x10) n).2)
    (fun k => ⟨rowsMax k, maxTrip (View.ld x5 (tilesIn k)) (View.ld x10 (rowsRms k)) (View.ld x4 gainRow)⟩) rfl (fun k => ?_) _ (fun k j => maxB_piece x5 x10 x4 k j) ?_)
  · show (pb_k0_t2 (F := Ideal) 𝒱 c bd i arg2 harg2 arg3 harg3 arg4 harg4 arg5 harg5 arg6 harg6 arg7 harg7 arg8 harg8 arg9 harg9 arg10 harg10 (harg4.unread x4) (harg5.unread x5) (harg10.unread x10) (k.val + 1)).2 = _
    rw [pb_k0_t2_succ, trip2_eq]
  · exact cover_rows (T := k0_t2_loop.trips) (by norm_num) (by decide) k0_off7 k0_off7_inb k0_off7_eq

theorem after3_codes (X8 : BufTy.Contents (Elt Ideal) arg8.view.ty) (X10 : BufTy.Contents (Elt Ideal) arg10.view.ty) (g : BufTy.Contents (Elt Ideal) arg6.view.ty) :
    arg6.view.writes (Elt Ideal) g (pb_k0_t3 (F := Ideal) 𝒱 c bd i arg2 harg2 arg3 harg3 arg4 harg4 arg5 harg5 arg6 harg6 arg7 harg7 arg8 harg8 arg9 harg9 arg10 harg10 X8 X10 k0_t3_loop.trips)
      = harg6.unread (codesB (arg8.view.read (Elt Ideal) X8) (arg10.view.read (Elt Ideal) X10)) := by
  obtain ⟨x8, rfl⟩ : ∃ x, X8 = harg8.unread (Val := Elt Ideal) x := ⟨_, (harg8.eq_unread rfl)⟩
  obtain ⟨x10, rfl⟩ : ∃ x, X10 = harg10.unread (Val := Elt Ideal) x := ⟨_, (harg10.eq_unread rfl)⟩
  simp only [harg8.read_unread, harg10.read_unread]
  refine harg6.eq_unread (read_pieces _ _ (fun n => (pb_k0_t3 (F := Ideal) 𝒱 c bd i arg2 harg2 arg3 harg3 arg4 harg4 arg5 harg5 arg6 harg6 arg7 harg7 arg8 harg8 arg9 harg9 arg10 harg10 (harg8.unread x8) (harg10.unread x10) n))
    (fun k => ⟨rowsCodes k, k0_pay1 (View.ld x8 (rowsY' k)) (View.ld x10 (rowsInv k))⟩) rfl (fun k => ?_) _ (fun k j => codesB_piece x8 x10 k j) ?_)
  · show (pb_k0_t3 (F := Ideal) 𝒱 c bd i arg2 harg2 arg3 harg3 arg4 harg4 arg5 harg5 arg6 harg6 arg7 harg7 arg8 harg8 arg9 harg9 arg10 harg10 (harg8.unread x8) (harg10.unread x10) (k.val + 1)) = _
    rw [pb_k0_t3_succ, trip3_eq]
  · exact cover_rows1 (T := k0_t3_loop.trips) (by norm_num) (by decide) k0_off11 k0_off11_inb k0_off11_eq

/-- What a run holds after loop 1: the written buffers at their closed forms. -/
@[reducible] def exit1 (E : Set ℕ) (X2 : BufTy.Contents (Elt Ideal) arg2.view.ty) (X3 : BufTy.Contents (Elt Ideal) arg3.view.ty) (G5 : BufTy.Contents (Elt Ideal) arg5.view.ty) (G9 : BufTy.Contents (Elt Ideal) arg9.view.ty) :
    LoopExit (loopInv_k0_t1 (F := Ideal) 𝒱 c bd E i arg2 harg2 arg3 harg3 arg4 harg4 arg5 harg5 arg6 harg6 arg7 harg7 arg8 harg8 arg9 harg9 arg10 harg10 X2 X3 G5 G9) where
  post _ := iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} harg5.unread (Val := Elt Ideal) (rB (arg2.view.read (Elt Ideal) X2) (arg3.view.read (Elt Ideal) X3))) ∗ (arg9.view.loc (c : Thread nD τ) ↦[arg9.view.set]{fullShare} harg9.unread (Val := Elt Ideal) (sqB (arg2.view.read (Elt Ideal) X2) (arg3.view.read (Elt Ideal) X3))))
  exit acc := by
    show inv_k0_t1 (F := Ideal) 𝒱 c bd i arg2 harg2 arg3 harg3 arg4 harg4 arg5 harg5 arg6 harg6 arg7 harg7 arg8 harg8 arg9 harg9 arg10 harg10 X2 X3 G5 G9 k0_t1_loop.trips acc ⊢ _
    unfold inv_k0_t1
    iintro ⟨HR2, HR3, ⟨%f5, HW5, %h5⟩, ⟨%f9, HW9, %h9⟩⟩
    obtain rfl := h5.trans (after1_sum 𝒱 c bd i arg2 harg2 arg3 harg3 arg4 harg4 arg5 harg5 arg6 harg6 arg7 harg7 arg8 harg8 arg9 harg9 arg10 harg10 X2 X3 G5)
    obtain rfl := h9.trans (after1_sq 𝒱 c bd i arg2 harg2 arg3 harg3 arg4 harg4 arg5 harg5 arg6 harg6 arg7 harg7 arg8 harg8 arg9 harg9 arg10 harg10 X2 X3 G9)
    isplitl [HR2]; · iexact HR2
    isplitl [HR3]; · iexact HR3
    isplitl [HW5]; · iexact HW5
    iexact HW9

/-- What a run holds after loop 2: the written buffers at their closed forms. -/
@[reducible] def exit2 (E : Set ℕ) (X4 : BufTy.Contents (Elt Ideal) arg4.view.ty) (X5 : BufTy.Contents (Elt Ideal) arg5.view.ty) (X10 : BufTy.Contents (Elt Ideal) arg10.view.ty) (G8 : BufTy.Contents (Elt Ideal) arg8.view.ty) (G9 : BufTy.Contents (Elt Ideal) arg9.view.ty) :
    LoopExit (loopInv_k0_t2 (F := Ideal) 𝒱 c bd E i arg2 harg2 arg3 harg3 arg4 harg4 arg5 harg5 arg6 harg6 arg7 harg7 arg8 harg8 arg9 harg9 arg10 harg10 X4 X5 X10 G8 G9) where
  post _ := iprop((arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} harg8.unread (Val := Elt Ideal) (yB (arg5.view.read (Elt Ideal) X5) (arg10.view.read (Elt Ideal) X10) (arg4.view.read (Elt Ideal) X4))) ∗ (arg9.view.loc (c : Thread nD τ) ↦[arg9.view.set]{fullShare} harg9.unread (Val := Elt Ideal) (maxB (yB (arg5.view.read (Elt Ideal) X5) (arg10.view.read (Elt Ideal) X10) (arg4.view.read (Elt Ideal) X4)))))
  exit acc := by
    show inv_k0_t2 (F := Ideal) 𝒱 c bd i arg2 harg2 arg3 harg3 arg4 harg4 arg5 harg5 arg6 harg6 arg7 harg7 arg8 harg8 arg9 harg9 arg10 harg10 X4 X5 X10 G8 G9 k0_t2_loop.trips acc ⊢ _
    unfold inv_k0_t2
    iintro ⟨HR4, HR5, HR10, ⟨%f8, HW8, %h8⟩, ⟨%f9, HW9, %h9⟩⟩
    obtain rfl := h8.trans (after2_y 𝒱 c bd i arg2 harg2 arg3 harg3 arg4 harg4 arg5 harg5 arg6 harg6 arg7 harg7 arg8 harg8 arg9 harg9 arg10 harg10 X4 X5 X10 G8)
    obtain rfl := h9.trans (after2_max 𝒱 c bd i arg2 harg2 arg3 harg3 arg4 harg4 arg5 harg5 arg6 harg6 arg7 harg7 arg8 harg8 arg9 harg9 arg10 harg10 X4 X5 X10 G9)
    isplitl [HR4]; · iexact HR4
    isplitl [HR5]; · iexact HR5
    isplitl [HR10]; · iexact HR10
    isplitl [HW8]; · iexact HW8
    iexact HW9

/-- What a run holds after loop 3: the written buffers at their closed forms. -/
@[reducible] def exit3 (E : Set ℕ) (X8 : BufTy.Contents (Elt Ideal) arg8.view.ty) (X10 : BufTy.Contents (Elt Ideal) arg10.view.ty) (G6 : BufTy.Contents (Elt Ideal) arg6.view.ty) :
    LoopExit (loopInv_k0_t3 (F := Ideal) 𝒱 c bd E i arg2 harg2 arg3 harg3 arg4 harg4 arg5 harg5 arg6 harg6 arg7 harg7 arg8 harg8 arg9 harg9 arg10 harg10 X8 X10 G6) where
  post _ := iprop((arg8.view.loc (c : Thread nD τ) ↦[arg8.view.set]{fullShare} X8) ∗ (arg10.view.loc (c : Thread nD τ) ↦[arg10.view.set]{fullShare} X10) ∗ (arg6.view.loc (c : Thread nD τ) ↦[arg6.view.set]{fullShare} harg6.unread (Val := Elt Ideal) (codesB (arg8.view.read (Elt Ideal) X8) (arg10.view.read (Elt Ideal) X10))))
  exit acc := by
    show inv_k0_t3 (F := Ideal) 𝒱 c bd i arg2 harg2 arg3 harg3 arg4 harg4 arg5 harg5 arg6 harg6 arg7 harg7 arg8 harg8 arg9 harg9 arg10 harg10 X8 X10 G6 k0_t3_loop.trips acc ⊢ _
    unfold inv_k0_t3
    iintro ⟨HR8, HR10, ⟨%f6, HW6, %h6⟩⟩
    obtain rfl := h6.trans (after3_codes 𝒱 c bd i arg2 harg2 arg3 harg3 arg4 harg4 arg5 harg5 arg6 harg6 arg7 harg7 arg8 harg8 arg9 harg9 arg10 harg10 X8 X10 G6)
    isplitl [HR8]; · iexact HR8
    isplitl [HR10]; · iexact HR10
    iexact HW6

end Cert.KernelIdeal.Run

end
-- ==== Proof.BodyRun.lean ====
/-
  What the kernel's body leaves at one grid point, in closed form.
-/
module

public import proofs.«01_k».proof.Proof.LoopExits

@[expose] public section

set_option maxRecDepth 16384

noncomputable section

namespace Cert.KernelIdeal.Run

open Cert.KernelIdeal Cert.KernelIdeal.Gen Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

/-- The normalised block, from the two inputs' blocks and the gain. -/
def yBlk (x y : Vec Ideal S1x256x6144 .bf16) (g : Vec Ideal S1x6144 .f32) : Vec Ideal S256x6144 .f32 :=
  yB (rB x y) (k0_pay15 (sqB x y)) g

/-- The inverse scales of the rows, from the lane maxima. -/
def invB (a : Vec Ideal S256x128 .f32) : FVec Ideal S256x1 .f32 :=
  k0_pay28 (k0_pay17 a) (k0_pay22 (k0_pay17 a) (k0_pay18 a) (k0_pay19 a) (k0_pay20 a) k0_pay21) (k0_pay23 (k0_pay17 a) (k0_pay18 a) (k0_pay19 a) (k0_pay20 a) k0_pay21) (k0_pay24 (k0_pay17 a)) k0_pay25

/-- The scales of the rows, laid out as two rows of lanes, from the lane maxima. -/
def scaleB (a : Vec Ideal S256x128 .f32) : FVec Ideal S2x128 .f32 :=
  k0_pay29 (k0_pay17 a) (k0_pay22 (k0_pay17 a) (k0_pay18 a) (k0_pay19 a) (k0_pay20 a) k0_pay21) (k0_pay23 (k0_pay17 a) (k0_pay18 a) (k0_pay19 a) (k0_pay20 a) k0_pay21) (k0_pay24 (k0_pay17 a)) k0_pay25

/-- The codes' block. -/
def codesBlk (x y : Vec Ideal S1x256x6144 .bf16) (g : Vec Ideal S1x6144 .f32) : Vec Ideal S1x256x6144 .fp8e4m3 :=
  codesB (yBlk x y g) (invB (maxB (yBlk x y g)))

/-- The two rows of the scales that grid point `i` writes. -/
abbrev scaleRows (i : grid0.Coords) : Rect S64x128 := Rect.unit (s := S64x128) (k0_off8 i) S2x128.size (k0_off8_inb i)

/-- The scales after grid point `i` has written its two rows `s` over `d`. -/
def putScale (i : grid0.Coords) (s : Vec Ideal S2x128 .f32) (d : Vec Ideal S64x128 .f32) : Vec Ideal S64x128 .f32 := fun j =>
  if h : 16 * (i 0).val + 2 * (i 1).val ≤ (j 0).val ∧ (j 0).val < 16 * (i 0).val + 2 * (i 1).val + 2 then
    s (ix2 (n0 := 2) (n1 := 128) ⟨(j 0).val - (16 * (i 0).val + 2 * (i 1).val), by omega⟩ (j 1))
  else d j

/-- A whole-block write is read back. -/
theorem read_whole {S : Shape} {e : EltTy} {sp : Space} (v : Memref sig .tc sp S e) (f : v.view.ty.Contents (Elt Ideal)) {off : Fin S.rank → ℕ}
    (h : off = fun _ => 0) (inb : ∀ a, off a + S.size a ≤ S.size a) (w : Vec Ideal S e) (L : List (View.Piece (Elt Ideal) S e)) :
    v.view.read (Elt Ideal) (v.view.writes (Elt Ideal) f (⟨Rect.unit (s := S) off S.size inb, w⟩ :: L)) = w := by
  subst h
  funext y
  have e := View.read_writes_cons_emb v.view f (Rect.whole S) w L y
  rw [Rect.emb_whole_apply] at e
  exact e

theorem scaleRows_emb (i : grid0.Coords) (a : Fin 2) (b : Fin 128) (j : S64x128.Idx) (h0 : (j 0).val = 16 * (i 0).val + 2 * (i 1).val + a.val)
    (h1 : (j 1).val = b.val) : (scaleRows i).emb (ix2 a b) = j := by
  funext d
  apply Fin.ext
  match d with
  | ⟨0, _⟩ => exact (emb_unit_val (s := S64x128) _ _ (k0_off8_inb i) (k0_off8_eq i) _ _).trans h0.symm
  | ⟨1, _⟩ => exact (emb_unit_val (s := S64x128) _ _ (k0_off8_inb i) (k0_off8_eq i) _ _).trans ((Nat.zero_add _).trans h1.symm)

/-- The scales' block after one point's two rows are written. -/
theorem read_scale (v : Memref sig .tc .vmem S64x128 .f32) (hv : v.IsWhole) (i : grid0.Coords) (s : Vec Ideal S2x128 .f32) (d : Vec Ideal S64x128 .f32) :
    v.view.read (Elt Ideal) (v.view.writes (Elt Ideal) (hv.unread d) [⟨scaleRows i, s⟩]) = putScale i s d := by
  funext j
  unfold putScale
  split
  · rename_i h
    exact View.read_writes_cons_hit _ _ (scaleRows i) s [] _ j (scaleRows_emb i _ _ j (by show _ = _ + ((j 0).val - _); omega) rfl)
  · rename_i h
    rw [View.read_writes_cons_miss _ _ _ _ _ ?_]
    · exact congrFun (hv.read_unread d) j
    · intro hm
      have h0 : k0_off8 i 0 ≤ (j 0).val ∧ (j 0).val < k0_off8 i 0 + 2 := (Rect.mem_set_unit (inb := k0_off8_inb i)).mp hm 0
      rw [show k0_off8 i 0 = 16 * (i 0).val + 2 * (i 1).val from congrFun (k0_off8_eq i) 0] at h0
      exact h h0

variable (c : Dev nD) (i : grid0.Coords)
  (arg2 : Memref sig .tc .vmem S1x256x6144 .bf16) (harg2 : arg2.IsWhole) (arg3 : Memref sig .tc .vmem S1x256x6144 .bf16) (harg3 : arg3.IsWhole) (arg4 : Memref sig .tc .vmem S1x6144 .f32) (harg4 : arg4.IsWhole) (arg5 : Memref sig .tc .vmem S32x8x6144 .bf16) (harg5 : arg5.IsWhole) (arg6 : Memref sig .tc .vmem S1x256x6144 .fp8e4m3) (harg6 : arg6.IsWhole) (arg7 : Memref sig .tc .vmem S64x128 .f32) (harg7 : arg7.IsWhole) (arg8 : Memref sig .tc .vmem S256x6144 .f32) (harg8 : arg8.IsWhole) (arg9 : Memref sig .tc .vmem S256x128 .f32) (harg9 : arg9.IsWhole) (arg10 : Memref sig .tc .vmem S256x1 .f32) (harg10 : arg10.IsWhole)

attribute [local instance] exit1 exit2 exit3 in
set_option maxHeartbeats 1000000 in
/-- The body on whole staging memrefs: it leaves the sum's and the codes' blocks in full, and two rows of the scales. -/
theorem kernelRun (x0 : Vec Ideal S1x256x6144 .bf16) (x1 : Vec Ideal S1x256x6144 .bf16) (x2 : Vec Ideal S1x6144 .f32) (d5 : Vec Ideal S64x128 .f32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ (∃ d, owns (c : Thread nD τ) arg5 fullShare d) ∗ (∃ d, owns (c : Thread nD τ) arg6 fullShare d) ∗ owns (c : Thread nD τ) arg7 fullShare (d5) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare (x0) ∗ owns (c : Thread nD τ) arg3 fullShare (x1) ∗ owns (c : Thread nD τ) arg4 fullShare (x2) ∗ owns (c : Thread nD τ) arg5 fullShare (rB x0 x1) ∗ owns (c : Thread nD τ) arg6 fullShare (codesBlk x0 x1 x2) ∗ owns (c : Thread nD τ) arg7 fullShare (putScale i (scaleB (maxB (yBlk x0 x1 x2))) d5) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := Ideal)) Variants.none c none) E (cc0__body i arg2 harg2 arg3 harg3 arg4 harg4 arg5 harg5 arg6 harg6 arg7 harg7 arg8 harg8 arg9 harg9 arg10 harg10) K := by
    intro E K
    simp only [cc0__body_eq_skeleton]; unfold cc0__body_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg7.eq_unread hf5
    sl_exec
    sl_step
    have z1 : (![0, 0] : Fin S256x1.rank → ℕ) = fun _ => 0 := by funext a; match a with | ⟨0, _⟩ => rfl | ⟨1, _⟩ => rfl
    have z9 : (![0, 0] : Fin S256x128.rank → ℕ) = fun _ => 0 := by funext a; match a with | ⟨0, _⟩ => rfl | ⟨1, _⟩ => rfl
    have ld9 (X : Vec Ideal S256x128 .f32) : View.ld (Val := Elt Ideal) X (Rect.unit (s := S256x128) ![0, 0] ![256, 128] inb_S256x128_S256x128_0_0) = X :=
      View.ld_unit_zero z9 inb_S256x128_S256x128_0_0 X
    have rd10 (f : arg10.view.ty.Contents (Elt Ideal)) (w : Vec Ideal S256x1 .f32) (L : List (View.Piece (Elt Ideal) S256x1 .f32)) :
        arg10.view.read (Elt Ideal) (arg10.view.writes (Elt Ideal) f (⟨Rect.unit (s := S256x1) ![0, 0] ![256, 1] inb_S256x1_S256x1_0_0, w⟩ :: L)) = w :=
      read_whole arg10 f z1 inb_S256x1_S256x1_0_0 w L
    sl_unfold_words
    simp only [View.readAt_eq_ld, harg2.read_unread, harg3.read_unread, harg4.read_unread, harg5.read_unread, harg8.read_unread, harg9.read_unread, ld9, rd10]
    iapply Hk
    isplitl [HL0]
    · iexists _; isplitr; · ipureintro; exact harg2.read_unread _
      iexact HL0
    isplitl [HL1]
    · iexists _; isplitr; · ipureintro; exact harg3.read_unread _
      iexact HL1
    isplitl [HL4]
    · iexists _; isplitr; · ipureintro; exact harg4.read_unread _
      iexact HL4
    isplitl [HL5]
    · iexists _; isplitr; swap; · iexact HL5
      ipureintro; exact harg5.read_unread _
    isplitl [HL11]
    · iexists _; isplitr; swap; · iexact HL11
      ipureintro; exact harg6.read_unread _
    isplitl [H5]
    · iexists _; isplitr; swap; · iexact H5
      ipureintro; exact read_scale arg7 harg7 i _ d5
    isplitl [HL9]
    · iexists _, _; isplitr; swap; · iexact HL9
      ipureintro; rfl
    isplitl [HL8]
    · iexists _, _; isplitr; swap; · iexact HL8
      ipureintro; rfl
    iexists _, _; isplitr; swap; · iexact HL10
    ipureintro; rfl

end Cert.KernelIdeal.Run

end
-- ==== Proof.Launch.lean ====
/-
  The kernel's pipeline: what the body finds and leaves at each grid point, and the launch.
-/
module

public import proofs.«01_k».proof.Proof.BodyRun
public import proofs.«01_k».proof.Proof.Gen.KernelIdeal.Frame
public import Idealize.ShloMosaic.Lib.Pipeline.DatRel
public import Idealize.ShloMosaic.Lib.Pipeline.ArrRel

@[expose] public section

set_option maxRecDepth 16384

noncomputable section

namespace Cert.KernelIdeal.Run

open Cert.KernelIdeal Cert.KernelIdeal.Gen Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Each window's current staging memref at point `t`. -/
abbrev st3 (t : Fin cfg0.N) : Memref sig .tc .vmem S32x8x6144 .bf16 := win0_3.stage (cfg0.slots t 3)
abbrev st4 (t : Fin cfg0.N) : Memref sig .tc .vmem S1x256x6144 .fp8e4m3 := win0_4.stage (cfg0.slots t 4)
abbrev st5 (t : Fin cfg0.N) : Memref sig .tc .vmem S64x128 .f32 := win0_5.stage (cfg0.slots t 5)

/-- The blocks of the two summands and the gain at point `t`. -/
def xBlk (c : Dev nD) (t : Fin cfg0.N) : Vec Ideal S1x256x6144 .bf16 := iblk m c 0 t
def dBlk (c : Dev nD) (t : Fin cfg0.N) : Vec Ideal S1x256x6144 .bf16 := iblk m c 1 t
def gBlk (c : Dev nD) (t : Fin cfg0.N) : Vec Ideal S1x6144 .f32 := iblk m c 2 t

/-- What the body leaves at point `t`: the sum's block, the codes' block, the two rows of the scales. -/
def sumAt (c : Dev nD) (t : Fin cfg0.N) : Vec Ideal S32x8x6144 .bf16 := rB (xBlk m c t) (dBlk m c t)
def codesAt (c : Dev nD) (t : Fin cfg0.N) : Vec Ideal S1x256x6144 .fp8e4m3 := codesBlk (xBlk m c t) (dBlk m c t) (gBlk m c t)
def scaleAt (c : Dev nD) (t : Fin cfg0.N) : Vec Ideal S2x128 .f32 := scaleB (maxB (yBlk (xBlk m c t) (dBlk m c t) (gBlk m c t)))

/-- The scales' block holds the rows written at the points up to `t`. -/
def ScalesUpTo (c : Dev nD) (t : Fin cfg0.N) (X : Vec Ideal S64x128 .f32) : Prop :=
  ∀ u : Fin cfg0.N, u.val ≤ t.val → ∀ (a : Fin 2) (b : Fin 128) (j : S64x128.Idx), (j 0).val = 2 * u.val + a.val → (j 1).val = b.val →
    X j = scaleAt m c u (ix2 a b)

/-- The pipeline's data: inputs left in place, the results stated by `leaves`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The windows whose contents the relation states: the three results. -/
def stated : Fin 6 → Bool := fun w => w.val == 3 || w.val == 4 || w.val == 5

/-- What each result's staging buffer holds after the body at a point. -/
def leaves (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun X => X = sumAt m c t
  | ⟨4, _⟩ => fun X => X = codesAt m c t
  | ⟨5, _⟩ => fun X => ScalesUpTo m c t X

/-- The relational data. -/
abbrev rdat (c : Dev nD) : Pipeline.RDat τ (Elt Ideal) Unit ℕ (UR sig nD τ) ℕ cfg0 c := (dats m 0 c).toRRel stated (leaves m c)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Point `t` writes the scales' rows `2t` and `2t + 1`. -/
theorem coords_val (t : Fin cfg0.N) : 16 * (grid0.coords t 0).val + 2 * (grid0.coords t 1).val = 2 * t.val := by
  revert t; decide

/-- One point's write keeps the rows of the earlier points and adds its own. -/
theorem scales_step (c : Dev nD) (t : Fin cfg0.N) (Y : Vec Ideal S64x128 .f32)
    (hY : (rdat m c).Finds 5 t Y) : ScalesUpTo m c t (putScale (grid0.coords t) (scaleAt m c t) Y) := by
  intro u hu a b j h0 h1
  unfold putScale
  have hc := coords_val t
  have ha := a.isLt
  by_cases hut : u.val = t.val
  · obtain rfl : u = t := Fin.ext hut
    rw [dif_pos (by omega)]
    have e0 : (⟨(j 0).val - (16 * (grid0.coords u 0).val + 2 * (grid0.coords u 1).val), by omega⟩ : Fin 2) = a := Fin.ext (by show (j 0).val - _ = _; omega)
    have e1 : (j 1 : Fin 128) = b := Fin.ext h1
    exact congrArg (scaleAt m c u) (congrArg₂ (ix2 (n0 := 2) (n1 := 128)) e0 e1)
  · rw [dif_neg (by omega)]
    have ht0 : t.val ≠ 0 := by omega
    have hN : t.val < 32 := t.isLt
    rcases ((rdat m c).finds_of_pos (w := 5) (t := t) rfl ht0 Y).mp hY with hf | hL
    · have := (flush0_5 _).mp hf
      have e : (t.val - 1) % 32 = 31 := this
      omega
    · exact (Dat.toRRel_leaves (dat := dats m 0 c) (fgt := stated) (Rl := leaves m c) (w := 5) rfl hL : ScalesUpTo m c _ Y) u (by show u.val ≤ t.val - 1; omega) a b j h0 h1

/-- The scratch buffers as memrefs. -/
abbrev sc0 : Memref sig .tc .vmem S256x6144 .f32 := Memref.whole cc0_scratch0
abbrev sc1 : Memref sig .tc .vmem S256x128 .f32 := Memref.whole cc0_scratch1
abbrev sc2 : Memref sig .tc .vmem S256x1 .f32 := Memref.whole cc0_scratch2

/-- The invariant is the scratch buffers at some contents, and the generator register. -/
theorem Phi_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ Y, ⌜(rdat m c).Finds 3 t Y⌝ ∗ owns (c : Thread nD τ) (st3 t) fullShare Y)
    ∗ (∃ Y, ⌜(rdat m c).Finds 4 t Y⌝ ∗ owns (c : Thread nD τ) (st4 t) fullShare Y)
    ∗ (∃ Y, ⌜(rdat m c).Finds 5 t Y⌝ ∗ owns (c : Thread nD τ) (st5 t) fullShare Y))

/-- What the body returns at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ X, ⌜leaves m c 3 t X⌝ ∗ owns (c : Thread nD τ) (st3 t) fullShare X)
    ∗ (∃ X, ⌜leaves m c 4 t X⌝ ∗ owns (c : Thread nD τ) (st4 t) fullShare X)
    ∗ (∃ X, ⌜leaves m c 5 t X⌝ ∗ owns (c : Thread nD τ) (st5 t) fullShare X))

set_option maxHeartbeats 800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, Phi_eq]
  iintro ⟨⟨⟨HS0, HS1, HS2⟩, Hg⟩, Ho, ⟨%d0, H0⟩, ⟨%d1, H1⟩, ⟨%d2, H2⟩, ⟨%d3, -, H3⟩, ⟨%d4, -, H4⟩, ⟨%d5, %h5, H5⟩⟩
  iapply ((kernelRun c (grid0.coords t) _ _ _ _ _ _ _ _ _ _ _ _ _ _ _ _ _ _ (xBlk m c t) (dBlk m c t) (gBlk m c t) d5) Set.univ _)
  isplitl [H0]; · iexact H0
  isplitl [H1]; · iexact H1
  isplitl [H2]; · iexact H2
  isplitl [H3]; · iexists _; iexact H3
  isplitl [H4]; · iexists _; iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]
  · iexists _; isplitr; swap; · iexact H3
    ipureintro; exact rfl
  isplitl [H4]
  · iexists _; isplitr; swap; · iexact H4
    ipureintro; exact rfl
  iexists _; isplitr; swap; · iexact H5
  ipureintro; exact scales_step m c t d5 h5

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : Pipeline.BodyObligationRel (dats m 0 c) (defs₀ (F := Ideal)) Variants.none () Set.univ stated (leaves m c) := fun t => by
  rw [bigSep_W0, bigSep_W0, defs₀_row]
  exact triple_restated (sound_body m c t) rfl .rfl fun _ => .rfl

set_option backward.isDefEq.respectTransparency.types false in
/-- The launch: every execution ends, the arrays in the stated relation, every counter at zero. -/
theorem run_main : θ_run defs (onTc (τ := τ) (main (F := Ideal))) (s₀ m ρ)
    (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.KernelIdeal.Run

end
-- ==== Proof.Exponent.lean ====
/-
  The power of two at or below a ratio, found by trying the exponent's bits from the greatest down, and found by the
  logarithm: the two give one exponent, hence one scale and one reciprocal.
-/
module

public import Idealize.ShloMosaic.Lib.Pointwise

@[expose] public section

set_option maxRecDepth 16384

noncomputable section

namespace Cert.Row

open Idealize.ShloMosaic Idealize.ShloMosaic.TcCoe Idealize.ShloMosaic.Tactic

open scoped BigOperators

/-- The number whose exponent field is `b` and whose other bits are zero. -/
def pow2w (b : BitVec 32) : EReal := Ideal.ofBits .f32 (IntOp.shli .vector b 23#32)

/-- One try of the search: the bit `k` is kept when the number with it is not above `t`. -/
def tryBit (t : EReal) (b k : BitVec 32) : BitVec 32 :=
  if max t (-t) < pow2w (IntOp.addi b k) then b else IntOp.addi b k

/-- The search over the eight bits of the exponent field. -/
def biased (t : EReal) : BitVec 32 :=
  tryBit t (tryBit t (tryBit t (tryBit t (tryBit t (tryBit t (tryBit t (tryBit t 0#32 128#32) 64#32) 32#32) 16#32) 8#32) 4#32) 2#32) 1#32

/-- The scale the search gives. -/
def scaleOf (t : EReal) : EReal := if t = 0 then 1 else pow2w (IntOp.addi (biased t) 1#32)

/-- The scale's reciprocal, by the exponent of the opposite sign. -/
def invOf (t : EReal) : EReal := if t = 0 then 1 else pow2w (IntOp.subi 253#32 (biased t))

/-- The exponent the logarithm gives. -/
def logExp (t : EReal) : EReal :=
  Ideal.liftRound Int.floor (Ideal.div (Ideal.log t) (Ideal.log (Ideal.ofBits .f32 1073741824#32))) + Ideal.ofBits .f32 1065353216#32

/-- The fields of a word that has only an exponent. -/
theorem fields : ∀ n : Fin 256,
    (IntOp.shli .vector (BitVec.ofNat 32 n.val) 23#32).extractLsb' 31 1 = 0#1 ∧
    ((IntOp.shli .vector (BitVec.ofNat 32 n.val) 23#32).extractLsb' 23 8).toNat = n.val ∧
    ((IntOp.shli .vector (BitVec.ofNat 32 n.val) 23#32).extractLsb' 0 23).toNat = 0 := by
  decide +kernel

theorem pow2w_zero : pow2w (BitVec.ofNat 32 0) = 0 := by
  obtain ⟨h1, h2, h3⟩ := fields 0
  simp only [Fin.val_zero, Fin.coe_ofNat_eq_mod] at h1 h2 h3
  unfold pow2w Ideal.ofBits Ideal.ieee
  simp only [show (8 : Nat) + 23 = 31 from rfl]
  rw [h1, h2, h3]
  simp

theorem pow2w_pos (n : ℕ) (h1 : 1 ≤ n) (h2 : n ≤ 254) : pow2w (BitVec.ofNat 32 n) = (((2 : ℝ) ^ ((n : ℤ) - 127) : ℝ) : EReal) := by
  obtain ⟨e1, e2, e3⟩ := fields ⟨n, by omega⟩
  simp only at e1 e2 e3
  unfold pow2w Ideal.ofBits Ideal.ieee
  simp only [show (8 : Nat) + 23 = 31 from rfl]
  rw [e1, e2, e3]
  rw [if_neg (by norm_num; omega), if_neg (by omega)]
  refine congrArg _ ?_
  simp only [show ((0#1 : BitVec 1) == 1#1) = false from rfl, Bool.false_eq_true, if_false, one_mul, Nat.add_zero, Nat.cast_pow, Nat.cast_ofNat]
  rw [← zpow_natCast, ← zpow_add₀ (by norm_num : (2 : ℝ) ≠ 0)]
  refine congrArg _ ?_
  push_cast
  ring

theorem pow2w_top : pow2w (BitVec.ofNat 32 255) = ⊤ := by
  obtain ⟨e1, e2, e3⟩ := fields 255
  have e : (255 : Fin 256).val = 255 := rfl
  rw [e] at e1 e2 e3
  unfold pow2w Ideal.ofBits Ideal.ieee
  simp only [show (8 : Nat) + 23 = 31 from rfl]
  rw [e1, e2, e3]
  simp

/-- The powers the search compares with; past the last of them, infinity. -/
def bound (n : ℕ) : EReal := if n < 256 then pow2w (BitVec.ofNat 32 n) else ⊤

theorem bound_pos {n : ℕ} (h1 : 1 ≤ n) (h2 : n ≤ 254) : bound n = (((2 : ℝ) ^ ((n : ℤ) - 127) : ℝ) : EReal) := by
  unfold bound
  rw [if_pos (by omega), pow2w_pos n h1 h2]

theorem addi_ofNat (b k : ℕ) : IntOp.addi (BitVec.ofNat 32 b) (BitVec.ofNat 32 k) = BitVec.ofNat 32 (b + k) := by
  unfold IntOp.addi
  rw [BitVec.ofNat_add]

/-- A try halves the range the number lies in. -/
theorem tryBit_spec {t : EReal} (ht : 0 ≤ t) (b k : ℕ) (hk : b + k < 256) (h1 : bound b ≤ t) (h2 : t < bound (b + (k + k))) (hmul : b + (k + k) ≤ 256) :
    ∃ b' : ℕ, tryBit t (BitVec.ofNat 32 b) (BitVec.ofNat 32 k) = BitVec.ofNat 32 b' ∧ bound b' ≤ t ∧ t < bound (b' + k) ∧ b' + k ≤ 256 := by
  have hneg : -t ≤ 0 := by simpa using ht
  have habs : max t (-t) = t := max_eq_left (hneg.trans ht)
  unfold tryBit
  rw [habs, addi_ofNat]
  by_cases h : t < pow2w (BitVec.ofNat 32 (b + k))
  · rw [if_pos h]
    exact ⟨b, rfl, h1, by unfold bound; rw [if_pos hk]; exact h, by omega⟩
  · rw [if_neg h]
    refine ⟨b + k, rfl, ?_, by rwa [Nat.add_assoc], by omega⟩
    unfold bound
    rw [if_pos hk]
    exact not_lt.mp h

/-- The search ends at the greatest power of two that is not above the number. -/
theorem biased_spec {t : EReal} (ht : 0 ≤ t) (ht' : t < ⊤) :
    ∃ b : ℕ, biased t = BitVec.ofNat 32 b ∧ bound b ≤ t ∧ t < bound (b + 1) ∧ b + 1 ≤ 256 := by
  have s0 : bound 0 ≤ t := by unfold bound; rw [if_pos (by norm_num), pow2w_zero]; exact ht
  obtain ⟨b0, e0, l0, u0, r0⟩ := tryBit_spec ht 0 128 (by norm_num) s0 (by unfold bound; rw [if_neg (by norm_num)]; exact ht') (by norm_num)
  obtain ⟨b1, e1, l1, u1, r1⟩ := tryBit_spec ht b0 64 (by omega) l0 u0 (by omega)
  obtain ⟨b2, e2, l2, u2, r2⟩ := tryBit_spec ht b1 32 (by omega) l1 u1 (by omega)
  obtain ⟨b3, e3, l3, u3, r3⟩ := tryBit_spec ht b2 16 (by omega) l2 u2 (by omega)
  obtain ⟨b4, e4, l4, u4, r4⟩ := tryBit_spec ht b3 8 (by omega) l3 u3 (by omega)
  obtain ⟨b5, e5, l5, u5, r5⟩ := tryBit_spec ht b4 4 (by omega) l4 u4 (by omega)
  obtain ⟨b6, e6, l6, u6, r6⟩ := tryBit_spec ht b5 2 (by omega) l5 u5 (by omega)
  obtain ⟨b7, e7, l7, u7, r7⟩ := tryBit_spec ht b6 1 (by omega) l6 u6 (by omega)
  exact ⟨b7, by unfold biased; rw [e0, e1, e2, e3, e4, e5, e6, e7], l7, u7, r7⟩

/-- In the range of the claim the exponent is an exponent of normal numbers, the scale's and its reciprocal's too. -/
theorem biased_range {t : EReal} (h1 : bound 1 ≤ t) (h2 : t < bound 253) :
    ∃ (b : ℕ) (τ : ℝ), t = (τ : EReal) ∧ biased t = BitVec.ofNat 32 b ∧ 1 ≤ b ∧ b ≤ 252 ∧
      (2 : ℝ) ^ ((b : ℤ) - 127) ≤ τ ∧ τ < (2 : ℝ) ^ ((b : ℤ) + 1 - 127) := by
  rw [bound_pos (by norm_num) (by norm_num)] at h1 h2
  have ht0 : (0 : EReal) ≤ t := le_trans (by exact_mod_cast (by positivity : (0 : ℝ) ≤ (2 : ℝ) ^ (((1 : ℕ) : ℤ) - 127))) h1
  have htt : t < ⊤ := h2.trans (EReal.coe_lt_top _)
  obtain ⟨b, e, l, u, r⟩ := biased_spec ht0 htt
  lift t to ℝ using ⟨htt.ne, (lt_of_lt_of_le EReal.bot_lt_zero ht0).ne'⟩
  have hb1 : 1 ≤ b := by
    by_contra hb
    have hb0 : b = 0 := by omega
    subst hb0
    rw [bound_pos (by norm_num) (by norm_num)] at u
    exact absurd u (not_lt.mpr h1)
  have hb2 : b ≤ 254 := by
    by_contra hb
    have hb0 : b = 255 := by omega
    subst hb0
    unfold bound at l
    rw [if_pos (by norm_num), pow2w_top] at l
    exact absurd htt (not_lt.mpr l)
  rw [bound_pos hb1 hb2] at l
  have l' := EReal.coe_le_coe_iff.mp l
  have h2' := EReal.coe_lt_coe_iff.mp h2
  have hlt := (zpow_lt_zpow_iff_right₀ (by norm_num : (1 : ℝ) < 2)).mp (lt_of_le_of_lt l' h2')
  have hb3 : b ≤ 252 := by
    have : (b : ℤ) < 253 := by push_cast at hlt; linarith
    omega
  rw [bound_pos (by omega) (by omega)] at u
  refine ⟨b, t, rfl, e, hb1, hb3, l', ?_⟩
  have u' := EReal.coe_lt_coe_iff.mp u
  push_cast at u'
  exact u'

theorem two : Ideal.ofBits .f32 1073741824#32 = ((2 : ℝ) : EReal) := by
  simp [Ideal.ofBits, Ideal.ieee, -EReal.coe_mul]; norm_num

/-- The logarithm's exponent of a number between two successive powers of two. -/
theorem logExp_eq (τ : ℝ) (b : ℤ) (h1 : (2 : ℝ) ^ b ≤ τ) (h2 : τ < (2 : ℝ) ^ (b + 1)) : logExp (τ : EReal) = (((b + 1 : ℤ) : ℝ) : EReal) := by
  have hτ : 0 < τ := lt_of_lt_of_le (by positivity) h1
  have hl2 : 0 < Real.log 2 := Real.log_pos (by norm_num)
  have e1 : Ideal.log (τ : EReal) = (Real.log τ : EReal) := by
    show (if τ ≤ 0 then ⊥ else (Real.log τ : EReal)) = _
    rw [if_neg (not_le.mpr hτ)]
  have e2 : Ideal.log ((2 : ℝ) : EReal) = (Real.log 2 : EReal) := by
    show (if (2 : ℝ) ≤ 0 then ⊥ else (Real.log 2 : EReal)) = _
    rw [if_neg (by norm_num)]
  have e3 : Ideal.div (Real.log τ : EReal) (Real.log 2 : EReal) = ((Real.log τ / Real.log 2 : ℝ) : EReal) := by
    unfold Ideal.div
    rw [if_neg (by exact_mod_cast hl2.ne'), ← EReal.coe_inv, ← EReal.coe_mul, div_eq_mul_inv]
  have e4 : ⌊Real.log τ / Real.log 2⌋ = b := by
    rw [Int.floor_eq_iff]
    constructor
    · rw [le_div_iff₀ hl2, ← Real.log_zpow]
      exact Real.log_le_log (by positivity) h1
    · rw [div_lt_iff₀ hl2, show ((b : ℝ) + 1) = ((b + 1 : ℤ) : ℝ) by push_cast; rfl, ← Real.log_zpow]
      exact Real.log_lt_log hτ h2
  unfold logExp
  rw [two, e1, e2, e3, Ideal.ofBits_one_f32]
  show (((⌊Real.log τ / Real.log 2⌋ : ℤ) : ℝ) : EReal) + 1 = _
  rw [e4]
  push_cast
  rfl

/-- Two to an integral power. -/
theorem pow_two (n : ℤ) : Ideal.pow ((2 : ℝ) : EReal) ((n : ℝ) : EReal) = (((2 : ℝ) ^ n : ℝ) : EReal) := by
  show ((Real.rpow 2 (n : ℝ) : ℝ) : EReal) = _
  exact congrArg _ (Real.rpow_intCast 2 n)

/-- The ratio's unit, the reciprocal of the greatest code, is not zero. -/
theorem unit_ne_zero : Ideal.ofBits .f32 991054117#32 ≠ 0 := by
  have h : Ideal.ofBits .f32 991054117#32 = ((9586981 * (2 : ℝ) ^ (-32 : ℤ) : ℝ) : EReal) := by
    simp [Ideal.ofBits, Ideal.ieee, -EReal.coe_mul]
  rw [h]
  norm_cast
  positivity

/-- A row's exponent, from the row's absolute maximum. -/
def rowExp (a : EReal) : EReal :=
  if a = 0 then 0 else logExp (a * Ideal.ofBits .f32 991054117#32)

/-- What is asked of a row: its ratio is zero or a number whose scale and reciprocal are normal numbers. -/
def InRange (t : EReal) : Prop := t = 0 ∨ (bound 1 ≤ t ∧ t < bound 253)

theorem ratio_zero (a : EReal) : a * Ideal.ofBits .f32 991054117#32 = 0 ↔ a = 0 := by
  rw [mul_eq_zero]
  exact or_iff_left unit_ne_zero

/-- The scale by the search is two to the row's exponent. -/
theorem scaleOf_eq {a : EReal} (h : InRange (a * Ideal.ofBits .f32 991054117#32)) :
    scaleOf (a * Ideal.ofBits .f32 991054117#32) = Ideal.pow (Ideal.ofBits .f32 1073741824#32) (rowExp a) := by
  unfold scaleOf rowExp
  rw [two]
  by_cases ha : a = 0
  · rw [if_pos ((ratio_zero a).mpr ha), if_pos ha]
    have := pow_two 0
    simpa using this.symm
  · have ht : a * Ideal.ofBits .f32 991054117#32 ≠ 0 := fun e => ha ((ratio_zero a).mp e)
    rw [if_neg ht, if_neg ha]
    obtain ⟨h1, h2⟩ := h.resolve_left ht
    obtain ⟨b, τ, et, eb, b1, b2, l, u⟩ := biased_range h1 h2
    rw [eb, et, logExp_eq τ ((b : ℤ) - 127) l (by convert u using 2; ring), pow_two,
      show (1#32 : BitVec 32) = BitVec.ofNat 32 1 from rfl, addi_ofNat, pow2w_pos _ (by omega) (by omega)]
    congr 2
    push_cast
    ring

/-- The reciprocal by the search is two to the opposite exponent. -/
theorem invOf_eq {a : EReal} (h : InRange (a * Ideal.ofBits .f32 991054117#32)) :
    invOf (a * Ideal.ofBits .f32 991054117#32) = Ideal.pow (Ideal.ofBits .f32 1073741824#32) (-rowExp a) := by
  unfold invOf rowExp
  rw [two]
  by_cases ha : a = 0
  · rw [if_pos ((ratio_zero a).mpr ha), if_pos ha]
    have := pow_two 0
    simpa using this.symm
  · have ht : a * Ideal.ofBits .f32 991054117#32 ≠ 0 := fun e => ha ((ratio_zero a).mp e)
    rw [if_neg ht, if_neg ha]
    obtain ⟨h1, h2⟩ := h.resolve_left ht
    obtain ⟨b, τ, et, eb, b1, b2, l, u⟩ := biased_range h1 h2
    have esub : IntOp.subi (253#32) (BitVec.ofNat 32 b) = BitVec.ofNat 32 (253 - b) := by
      unfold IntOp.subi
      apply BitVec.eq_of_toNat_eq
      simp only [BitVec.toNat_sub, BitVec.toNat_ofNat]
      omega
    rw [eb, et, logExp_eq τ ((b : ℤ) - 127) l (by convert u using 2; ring), ← EReal.coe_neg, ← Int.cast_neg, pow_two,
      esub, pow2w_pos _ (by omega) (by omega)]
    congr 2
    rw [Nat.cast_sub (by omega)]
    push_cast
    ring

end Cert.Row

end
-- ==== Proof.Rows.lean ====
/-
  One row of the computation: its reciprocal root mean square, its normalised entries, its absolute maximum; and the
  sums and maxima of a row taken lane by lane.
-/
module

public import proofs.«01_k».proof.Proof.Exponent

@[expose] public section

set_option maxRecDepth 16384

noncomputable section

namespace Cert.Row

open Idealize.ShloMosaic Idealize.ShloMosaic.TcCoe Idealize.ShloMosaic.Tactic

open scoped BigOperators

/-- The reciprocal root mean square of a row. -/
def invRms (r : Fin 6144 → EReal) : EReal :=
  Ideal.rsqrt (Ideal.div (∑ k, r k * r k) (Ideal.ofBits .f32 1170210816#32) + Ideal.ofBits .f32 897988541#32)

/-- The normalised row. -/
def normed (r g : Fin 6144 → EReal) (k : Fin 6144) : EReal := r k * invRms r * g k

/-- The row's absolute maximum. -/
def amax (y : Fin 6144 → EReal) : EReal := Finset.univ.sup fun k => max (y k) (-y k)

/-- A value clipped to the codes' range. -/
def clip (v : EReal) : EReal := min (Ideal.ofBits .f32 1138753536#32) (max (Ideal.ofBits .f32 3286237184#32) v)

/-- The pattern of minus infinity. -/
theorem neg_inf : Ideal.ofBits .f32 4286578688#32 = ⊥ := by
  simp [Ideal.ofBits, Ideal.ieee]

/-- A maximum folded from minus infinity is the supremum. -/
theorem fold_max {n : ℕ} (f : Fin n → EReal) : Finset.fold max (Ideal.ofBits .f32 4286578688#32) f Finset.univ = Finset.univ.sup f := by
  rw [neg_inf]
  rfl

/-- The lanes and chunks of a row are its columns. -/
def laneEquiv : Fin 48 × Fin 128 ≃ Fin 6144 := finProdFinEquiv

theorem laneEquiv_apply (c : Fin 48) (l : Fin 128) : laneEquiv (c, l) = ⟨128 * c.val + l.val, by omega⟩ :=
  Fin.ext (by show l.val + 128 * c.val = _; exact Nat.add_comm _ _)

/-- A row's sum, lane by lane. -/
theorem sum_lanes (f : Fin 6144 → EReal) :
    (∑ l : Fin 128, ∑ c : Fin 48, f ⟨128 * c.val + l.val, by omega⟩) = ∑ k, f k := by
  rw [Finset.sum_comm, ← Equiv.sum_comp laneEquiv, Fintype.sum_prod_type]
  simp only [laneEquiv_apply]

/-- A row's supremum, lane by lane. -/
theorem sup_lanes (f : Fin 6144 → EReal) :
    (Finset.univ.sup fun l : Fin 128 => Finset.univ.sup fun c : Fin 48 => f ⟨128 * c.val + l.val, by omega⟩) = Finset.univ.sup f := by
  rw [Finset.sup_comm]
  apply le_antisymm
  · exact Finset.sup_le fun c _ => Finset.sup_le fun l _ => Finset.le_sup (f := f) (Finset.mem_univ _)
  · refine Finset.sup_le fun k _ => ?_
    obtain ⟨⟨c, l⟩, rfl⟩ := laneEquiv.surjective k
    rw [laneEquiv_apply]
    exact (Finset.le_sup (f := fun l : Fin 128 => f ⟨128 * c.val + l.val, by omega⟩) (Finset.mem_univ l)).trans
      (Finset.le_sup (f := fun c : Fin 48 => Finset.univ.sup fun l : Fin 128 => f ⟨128 * c.val + l.val, by omega⟩) (Finset.mem_univ c))

end Cert.Row

end
-- ==== Proof.KernelRows.lean ====
/-
  The kernel's results of one grid point at an index, row by row.
-/
module

public import proofs.«01_k».proof.Proof.BodyRun
public import proofs.«01_k».proof.Proof.Rows
public import Idealize.ShloMosaic.Lib.Pointwise

@[expose] public section

set_option maxRecDepth 16384

noncomputable section

namespace Cert.KernelIdeal.Run

open Cert.KernelIdeal Cert.KernelIdeal.Gen Idealize.ShloMosaic Idealize.ShloMosaic.TcCoe Idealize.ShloMosaic.Tactic Idealize.SL.Sem

open scoped BigOperators

theorem rB_apply (x y : FVec Ideal S1x256x6144 .bf16) (p : Fin 32) (q : Fin 8) (k : Fin 6144) :
    rB x y (ix3 p q k) = x (ix3 0 (tileRow p q) k) + y (ix3 0 (tileRow p q) k) := rfl

theorem tileRow_div (p : Fin 256) : tileRow ⟨p.val / 8, by omega⟩ ⟨p.val % 8, by omega⟩ = p :=
  Fin.ext (by show 8 * (p.val / 8) + p.val % 8 = p.val; omega)

theorem pay15_apply (a : FVec Ideal S256x128 .f32) (p : Fin 256) :
    k0_pay15 (F := Ideal) a (ix2 p 0) = Ideal.rsqrt (Ideal.div (∑ l : Fin 128, a (ix2 p l)) (Ideal.ofBits .f32 1170210816#32) + Ideal.ofBits .f32 897988541#32) := by
  pointwise [k0_pay15]

/-- The reciprocal root mean square of a row of the block. -/
theorem rms_apply (x y : FVec Ideal S1x256x6144 .bf16) (p : Fin 256) :
    k0_pay15 (sqB x y) (ix2 p 0) = Row.invRms (fun k => x (ix3 0 p k) + y (ix3 0 p k)) := by
  rw [pay15_apply]
  unfold Row.invRms
  rw [← Row.sum_lanes]
  rfl

/-- The block's normalised rows. -/
theorem yBlk_apply (x y : FVec Ideal S1x256x6144 .bf16) (g : FVec Ideal S1x6144 .f32) (p : Fin 256) (k : Fin 6144) :
    yBlk x y g (ix2 p k) = Row.normed (fun k => x (ix3 0 p k) + y (ix3 0 p k)) (fun k => g (ix2 0 k)) k := by
  show rB x y (ix3 ⟨p.val / 8, by omega⟩ ⟨p.val % 8, by omega⟩ k) * k0_pay15 (sqB x y) (ix2 p 0) * g (ix2 0 k) = _
  rw [rms_apply, rB_apply, tileRow_div]
  rfl

theorem pay17_apply (a : FVec Ideal S256x128 .f32) (p : Fin 256) :
    k0_pay17 a (ix2 p 0) = (Finset.univ.sup fun l : Fin 128 => a (ix2 p l)) * Ideal.ofBits .f32 991054117#32 := by
  pointwise [k0_pay17]
  rw [Row.fold_max]

/-- The ratio of a row of the block. -/
theorem ratio_apply (y : FVec Ideal S256x6144 .f32) (p : Fin 256) :
    k0_pay17 (maxB y) (ix2 p 0) = Row.amax (fun k => y (ix2 p k)) * Ideal.ofBits .f32 991054117#32 := by
  rw [pay17_apply]
  unfold Row.amax
  rw [← Row.sup_lanes]
  rfl

/-- One try of the search, on all rows. -/
def vtry (t : FVec Ideal S256x1 .f32) (k : BitVec 32) (b : IVec S256x1 32) : IVec S256x1 32 :=
  select (cmpf .olt (absf t) (bitcastToFloat .f32 (shli (addi b (broadcast S256x1 k)) (broadcast S256x1 23#32)))) b (addi b (broadcast S256x1 k))

theorem vtry_apply (t : FVec Ideal S256x1 .f32) (k : BitVec 32) (b : IVec S256x1 32) (p : Fin 256) :
    vtry t k b (ix2 p 0) = Row.tryBit (t (ix2 p 0)) (b (ix2 p 0)) k := by
  pointwise [vtry]
  rfl

/-- The search on all rows: every try but the last. -/
theorem seven_eq (a : FVec Ideal S256x128 .f32) :
    k0_pay22 (F := Ideal) (k0_pay17 a) (k0_pay18 (F := Ideal) a) (k0_pay19 (F := Ideal) a) (k0_pay20 (F := Ideal) a) k0_pay21
      = vtry (k0_pay17 a) 2#32 (vtry (k0_pay17 a) 4#32 (vtry (k0_pay17 a) 8#32 (vtry (k0_pay17 a) 16#32 (vtry (k0_pay17 a) 32#32 (vtry (k0_pay17 a) 64#32
          (vtry (k0_pay17 a) 128#32 (broadcast S256x1 0#32))))))) := rfl

/-- The last try. -/
theorem last_eq (t : FVec Ideal S256x1 .f32) (v26 v28 : IVec S256x1 32) (v29 : FVec Ideal S256x1 .f32) (v30 : IVec S256x1 32) :
    k0_pay26 (F := Ideal) (k0_pay22 t v26 v28 v29 v30) (k0_pay23 t v26 v28 v29 v30) (k0_pay24 t) k0_pay25 = vtry t 1#32 (k0_pay22 t v26 v28 v29 v30) := rfl

/-- The search on all rows. -/
def vbiased (a : FVec Ideal S256x128 .f32) : IVec S256x1 32 :=
  k0_pay26 (F := Ideal) (k0_pay22 (k0_pay17 a) (k0_pay18 (F := Ideal) a) (k0_pay19 (F := Ideal) a) (k0_pay20 (F := Ideal) a) k0_pay21)
    (k0_pay23 (k0_pay17 a) (k0_pay18 (F := Ideal) a) (k0_pay19 (F := Ideal) a) (k0_pay20 (F := Ideal) a) k0_pay21) (k0_pay24 (k0_pay17 a)) k0_pay25

theorem vbiased_apply (a : FVec Ideal S256x128 .f32) (p : Fin 256) : vbiased a (ix2 p 0) = Row.biased (k0_pay17 (F := Ideal) a (ix2 p 0)) := by
  unfold vbiased
  rw [last_eq, seven_eq, Row.biased]
  simp only [vtry_apply]
  rw [show broadcast S256x1 (0#32 : BitVec 32) (ix2 p 0) = 0#32 from rfl]

theorem vbiased_eq (a : FVec Ideal S256x128 .f32) :
    k0_pay26 (F := Ideal) (k0_pay22 (k0_pay17 a) (k0_pay18 (F := Ideal) a) (k0_pay19 (F := Ideal) a) (k0_pay20 (F := Ideal) a) k0_pay21)
      (k0_pay23 (k0_pay17 a) (k0_pay18 (F := Ideal) a) (k0_pay19 (F := Ideal) a) (k0_pay20 (F := Ideal) a) k0_pay21) (k0_pay24 (k0_pay17 a)) k0_pay25
      = vbiased a := rfl

/-- The reciprocal scales from the exponents. -/
theorem pay28_apply (t : FVec Ideal S256x1 .f32) (a b : IVec S256x1 32) (c : FVec Ideal S256x1 .f32) (d : IVec S256x1 32) (p : Fin 256) :
    k0_pay28 (F := Ideal) t a b c d (ix2 p 0)
      = if t (ix2 p 0) = 0 then 1 else Row.pow2w (IntOp.subi 253#32 (k0_pay26 (F := Ideal) a b c d (ix2 p 0))) := by
  generalize he : k0_pay26 (F := Ideal) a b c d = e
  pointwise [k0_pay28, k0_pay27, he]
  rfl

theorem invB_apply (a : FVec Ideal S256x128 .f32) (p : Fin 256) : invB a (ix2 p 0) = Row.invOf (k0_pay17 (F := Ideal) a (ix2 p 0)) := by
  unfold invB
  rw [pay28_apply, vbiased_eq, vbiased_apply, Row.invOf]

/-- A sum that keeps the one term whose index is `p`. -/
theorem diagonal (f : Fin 128 → EReal) (p : Fin 128) :
    (∑ x : Fin 128, Scalar.select (IntOp.cmpi .eq (BitVec.ofNat 32 x.val) (BitVec.ofNat 32 p.val)) (f x) 0) = f p := by
  rw [Finset.sum_eq_single p]
  · unfold Scalar.select IntOp.cmpi
    simp
  · intro x _ hx
    have h : BitVec.ofNat 32 x.val ≠ BitVec.ofNat 32 p.val := by
      intro e
      have := congrArg BitVec.toNat e
      simp only [BitVec.toNat_ofNat] at this
      exact hx (Fin.ext (by omega))
    unfold Scalar.select IntOp.cmpi
    simp only [beq_eq_false_iff_ne.mpr h]
    exact if_neg (by decide)
  · intro h
    exact absurd (Finset.mem_univ p) h

/-- The scales of the block's rows from the exponents, one row of lanes per half of the block. -/
theorem pay29_apply0 (t : FVec Ideal S256x1 .f32) (a b : IVec S256x1 32) (c : FVec Ideal S256x1 .f32) (d : IVec S256x1 32) (l : Fin 128) :
    k0_pay29 (F := Ideal) t a b c d (ix2 0 l)
      = if t (ix2 ⟨l.val, by omega⟩ 0) = 0 then 1 else Row.pow2w (IntOp.addi (k0_pay26 (F := Ideal) a b c d (ix2 ⟨l.val, by omega⟩ 0)) 1#32) := by
  generalize he : k0_pay26 (F := Ideal) a b c d = e
  pointwise [k0_pay29, k0_pay27, he]
  exact diagonal (fun l => if t (ix2 ⟨l.val, by omega⟩ 0) = 0 then 1 else Row.pow2w (IntOp.addi (e (ix2 ⟨l.val, by omega⟩ 0)) 1#32)) l

theorem pay29_apply1 (t : FVec Ideal S256x1 .f32) (a b : IVec S256x1 32) (c : FVec Ideal S256x1 .f32) (d : IVec S256x1 32) (l : Fin 128) :
    k0_pay29 (F := Ideal) t a b c d (ix2 1 l)
      = if t (ix2 ⟨128 + l.val, by omega⟩ 0) = 0 then 1 else Row.pow2w (IntOp.addi (k0_pay26 (F := Ideal) a b c d (ix2 ⟨128 + l.val, by omega⟩ 0)) 1#32) := by
  generalize he : k0_pay26 (F := Ideal) a b c d = e
  pointwise [k0_pay29, k0_pay27, he]
  exact diagonal (fun l => if t (ix2 ⟨128 + l.val, by omega⟩ 0) = 0 then 1 else Row.pow2w (IntOp.addi (e (ix2 ⟨128 + l.val, by omega⟩ 0)) 1#32)) l

theorem scaleB_apply0 (a : FVec Ideal S256x128 .f32) (l : Fin 128) :
    scaleB a (ix2 0 l) = Row.scaleOf (k0_pay17 (F := Ideal) a (ix2 ⟨l.val, by omega⟩ 0)) := by
  unfold scaleB
  rw [pay29_apply0, vbiased_eq, vbiased_apply, Row.scaleOf]

theorem scaleB_apply1 (a : FVec Ideal S256x128 .f32) (l : Fin 128) :
    scaleB a (ix2 1 l) = Row.scaleOf (k0_pay17 (F := Ideal) a (ix2 ⟨128 + l.val, by omega⟩ 0)) := by
  unfold scaleB
  rw [pay29_apply1, vbiased_eq, vbiased_apply, Row.scaleOf]

/-- The scale of the block's row `128 a + l`. -/
theorem scaleB_apply (a : FVec Ideal S256x128 .f32) (h : Fin 2) (l : Fin 128) :
    scaleB a (ix2 h l) = Row.scaleOf (k0_pay17 (F := Ideal) a (ix2 ⟨128 * h.val + l.val, by omega⟩ 0)) := by
  fin_cases h
  · refine (scaleB_apply0 a l).trans ?_
    exact congrArg (fun p => Row.scaleOf (k0_pay17 (F := Ideal) a (ix2 p 0))) (Fin.ext (by simp))
  · exact scaleB_apply1 a l

/-- A code. -/
theorem pay1_const (u v : EReal) : k0_pay1 (F := Ideal) (fun _ => u) (fun _ => v) (ix3 0 0 0) = Row.clip (u * v) := by
  pointwise [k0_pay1]
  rfl

theorem codesB_apply (y : FVec Ideal S256x6144 .f32) (z : FVec Ideal S256x1 .f32) (p : Fin 256) (k : Fin 6144) :
    codesB y z (ix3 0 p k) = Row.clip (y (ix2 p k) * z (ix2 p 0)) := pay1_const _ _

/-- The codes of a point, row by row. -/
theorem codesBlk_apply (x y : FVec Ideal S1x256x6144 .bf16) (g : FVec Ideal S1x6144 .f32) (p : Fin 256) (k : Fin 6144) :
    codesBlk x y g (ix3 0 p k)
      = Row.clip (Row.normed (fun k => x (ix3 0 p k) + y (ix3 0 p k)) (fun k => g (ix2 0 k)) k
          * Row.invOf (Row.amax (Row.normed (fun k => x (ix3 0 p k) + y (ix3 0 p k)) (fun k => g (ix2 0 k))) * Ideal.ofBits .f32 991054117#32)) := by
  unfold codesBlk
  rw [codesB_apply, invB_apply, ratio_apply, yBlk_apply]
  simp only [yBlk_apply]

/-- The scales of a point, row by row. -/
theorem scaleBlk_apply (x y : FVec Ideal S1x256x6144 .bf16) (g : FVec Ideal S1x6144 .f32) (h : Fin 2) (l : Fin 128) :
    scaleB (maxB (yBlk x y g)) (ix2 h l)
      = Row.scaleOf (Row.amax (Row.normed (fun k => x (ix3 0 ⟨128 * h.val + l.val, by omega⟩ k) + y (ix3 0 ⟨128 * h.val + l.val, by omega⟩ k)) (fun k => g (ix2 0 k)))
          * Ideal.ofBits .f32 991054117#32) := by
  rw [scaleB_apply, ratio_apply]
  simp only [yBlk_apply]

end Cert.KernelIdeal.Run

end
-- ==== Proof.Results.lean ====
/-
  The three results as functions of the arguments, row by row.
-/
module

public import proofs.«01_k».proof.Proof.Rows
public import Idealize.ShloMosaic.Lib.Pointwise

@[expose] public section

set_option maxRecDepth 16384

noncomputable section

namespace Cert.Row

open Idealize.ShloMosaic Idealize.ShloMosaic.TcCoe Idealize.ShloMosaic.Tactic

open scoped BigOperators

/-- The arguments' shapes, and the results' shapes where they differ. -/
abbrev SX : Shape := ⟨3, ![4, 2048, 6144]⟩
abbrev SG : Shape := ⟨1, ![6144]⟩
abbrev SR : Shape := ⟨3, ![1024, 8, 6144]⟩
abbrev SS : Shape := ⟨2, ![64, 128]⟩

variable (x d : SX.Idx → EReal) (g : SG.Idx → EReal)

/-- A row of the residual sum. -/
def sumRow (a : Fin 4) (s : Fin 2048) : Fin 6144 → EReal := fun k => x (ix3 a s k) + d (ix3 a s k)

/-- A normalised row. -/
def yRow (a : Fin 4) (s : Fin 2048) : Fin 6144 → EReal := normed (sumRow x d a s) (fun k => g (ix1 k))

/-- A row's ratio: its absolute maximum in units of the greatest code. -/
def ratio (a : Fin 4) (s : Fin 2048) : EReal := amax (yRow x d g a s) * Ideal.ofBits .f32 991054117#32

/-- The residual sum, in tiles of eight rows. -/
def sumOut : SR.Idx → EReal := fun j =>
  sumRow x d ⟨(j 0).val / 256, by have : (j 0).val < 1024 := (j 0).isLt; omega⟩
    ⟨(j 0).val % 256 * 8 + (j 1).val, by have : (j 1).val < 8 := (j 1).isLt; omega⟩ (j 2)

/-- The codes. -/
def codesOut : SX.Idx → EReal := fun j =>
  clip (yRow x d g (j 0) (j 1) (j 2) * invOf (ratio x d g (j 0) (j 1)))

/-- The scales, a hundred and twenty-eight rows to a line. -/
def scaleOut : SS.Idx → EReal := fun j =>
  scaleOf (ratio x d g ⟨(j 0).val / 16, by have : (j 0).val < 64 := (j 0).isLt; omega⟩
    ⟨(j 0).val % 16 * 128 + (j 1).val, by have : (j 1).val < 128 := (j 1).isLt; omega⟩)

end Cert.Row

end
-- ==== Proof.KernelBlocks.lean ====
/-
  The blocks of the arguments at a grid point, and the point's results over the arguments.
-/
module

public import proofs.«01_k».proof.Proof.Launch
public import proofs.«01_k».proof.Proof.KernelRows
public import proofs.«01_k».proof.Proof.Results
public import Idealize.ShloMosaic.Lib.Pipeline.ValueKit
public import Idealize.ShloMosaic.Lib.StableHlo.ReadAt

@[expose] public section

set_option maxRecDepth 16384

noncomputable section

namespace Cert.KernelIdeal.Run

open Cert.KernelIdeal Cert.KernelIdeal.Gen Idealize.ShloMosaic Idealize.ShloMosaic.TcCoe Idealize.ShloMosaic.Tactic Idealize.SL.Sem

open scoped BigOperators

variable (m : (ℓ : Loc nD τ sig) → Buf (Elt Ideal) ℓ)

/-- Where the windows of the grid's points lie. -/
theorem index0 : ∀ t : Fin cfg0.N, win0_0.index t = ![t.val / 8, t.val % 8, 0] := (by decide +kernel : ∀ t : Fin grid0.N, _)
theorem index1 : ∀ t : Fin cfg0.N, win0_1.index t = ![t.val / 8, t.val % 8, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![t.val / 8, t.val % 8, 0] := (by decide +kernel : ∀ t : Fin grid0.N, _)
theorem index5 : ∀ t : Fin cfg0.N, win0_5.index t = ![0, 0] := (by decide +kernel : ∀ t : Fin grid0.N, _)

/-- The sequence a point works on, and the row of its block's row. -/
def seqOf (t : Fin cfg0.N) : Fin 4 := ⟨t.val / 8, by have : t.val < 32 := t.isLt; omega⟩
def rowOf (t : Fin cfg0.N) (p : Fin 256) : Fin 2048 := ⟨t.val % 8 * 256 + p.val, by omega⟩

theorem xBlk_apply (c : Dev nD) (t : Fin cfg0.N) (p : Fin 256) (k : Fin 6144) :
    xBlk m c t (ix3 0 p k) = m ((c : Thread nD τ).loc main_arg0) (ix3 (seqOf t) (rowOf t p) k) := by
  rw [← V_main_arg0 m c]
  unfold xBlk
  blk_simp [iblk]
  congr 1
  blk_ext [index0] <;> rfl

theorem dBlk_apply (c : Dev nD) (t : Fin cfg0.N) (p : Fin 256) (k : Fin 6144) :
    dBlk m c t (ix3 0 p k) = m ((c : Thread nD τ).loc main_arg1) (ix3 (seqOf t) (rowOf t p) k) := by
  rw [← V_main_arg1 m c]
  unfold dBlk
  blk_simp [iblk]
  congr 1
  blk_ext [index1] <;> rfl

/-- The gain as the kernel is given it. -/
theorem V_v0 (c : Dev nD) (k : Fin 6144) : V m c main_v0 (ix2 0 k) = m ((c : Thread nD τ).loc main_arg2) (ix1 k) := by
  unfold V
  simp only [hostOps0, List.flatten_cons, List.flatten_nil, List.append_nil, List.cons_append, List.nil_append]
  after_reads_at

theorem gBlk_apply (c : Dev nD) (t : Fin cfg0.N) (k : Fin 6144) :
    gBlk m c t (ix2 0 k) = m ((c : Thread nD τ).loc main_arg2) (ix1 k) := by
  rw [← V_v0 m c k]
  unfold gBlk
  blk_simp [iblk]
  congr 1
  blk_ext [index2]

end Cert.KernelIdeal.Run

end
-- ==== Proof.KernelArrays.lean ====
/-
  The kernel's result arrays after the run, and the run.
-/
module

public import proofs.«01_k».proof.Proof.KernelBlocks
public import Idealize.ShloMosaic.Lib.Pipeline.ArrRel

@[expose] public section

set_option maxRecDepth 16384

noncomputable section

namespace Cert.KernelIdeal.Run

open Cert.KernelIdeal Cert.KernelIdeal.Gen Idealize.ShloMosaic Idealize.ShloMosaic.TcCoe Idealize.ShloMosaic.Tactic Idealize.SL.Sem Idealize.ShloMosaic.Pipeline

open scoped BigOperators

variable (m : (ℓ : Loc nD τ sig) → Buf (Elt Ideal) ℓ) (ρ : Dev nD → PrngReg)

/-- The arguments on a device. -/
abbrev argX (c : Dev nD) : Row.SX.Idx → EReal := m ((c : Thread nD τ).loc main_arg0)
abbrev argD (c : Dev nD) : Row.SX.Idx → EReal := m ((c : Thread nD τ).loc main_arg1)
abbrev argG (c : Dev nD) : Row.SG.Idx → EReal := m ((c : Thread nD τ).loc main_arg2)

/-- A point's rows are the arguments' rows. -/
theorem rows_eq (c : Dev nD) (t : Fin cfg0.N) (p : Fin 256) :
    (fun k => xBlk m c t (ix3 0 p k) + dBlk m c t (ix3 0 p k)) = Row.sumRow (argX m c) (argD m c) (seqOf t) (rowOf t p) := by
  funext k
  rw [xBlk_apply, dBlk_apply]
  rfl

theorem gain_eq (c : Dev nD) (t : Fin cfg0.N) : (fun k => gBlk m c t (ix2 0 k)) = fun k => argG m c (ix1 k) := by
  funext k
  rw [gBlk_apply]

theorem sumAt_apply (c : Dev nD) (t : Fin cfg0.N) (p : Fin 32) (q : Fin 8) (k : Fin 6144) :
    sumAt m c t (ix3 p q k) = Row.sumRow (argX m c) (argD m c) (seqOf t) (rowOf t (tileRow p q)) k := by
  unfold sumAt
  rw [rB_apply, ← rows_eq]

theorem codesAt_apply (c : Dev nD) (t : Fin cfg0.N) (p : Fin 256) (k : Fin 6144) :
    codesAt m c t (ix3 0 p k) = Row.clip (Row.yRow (argX m c) (argD m c) (argG m c) (seqOf t) (rowOf t p) k
      * Row.invOf (Row.ratio (argX m c) (argD m c) (argG m c) (seqOf t) (rowOf t p))) := by
  unfold codesAt
  rw [codesBlk_apply, rows_eq, gain_eq]
  rfl

theorem scaleAt_apply (c : Dev nD) (t : Fin cfg0.N) (h : Fin 2) (l : Fin 128) :
    scaleAt m c t (ix2 h l) = Row.scaleOf (Row.ratio (argX m c) (argD m c) (argG m c) (seqOf t) (rowOf t ⟨128 * h.val + l.val, by omega⟩)) := by
  unfold scaleAt
  rw [scaleBlk_apply, rows_eq, gain_eq]
  rfl

/-- The results at an index of a point's block. -/
theorem sumOut_at (x d : Row.SX.Idx → EReal) (t : Fin cfg0.N) (p : Fin 32) (q : Fin 8) (k : Fin 6144) (j : Row.SR.Idx)
    (h0 : (j 0).val = t.val * 32 + p.val) (h1 : (j 1).val = q.val) (h2 : (j 2).val = k.val) :
    Row.sumOut x d j = Row.sumRow x d (seqOf t) (rowOf t (tileRow p q)) k := by
  have ht : t.val < 32 := t.isLt
  unfold Row.sumOut
  rw [show (j 2 : Fin 6144) = k from Fin.ext h2]
  have e0 : (⟨(j 0).val / 256, by omega⟩ : Fin 4) = seqOf t := Fin.ext (by show (j 0).val / 256 = t.val / 8; omega)
  have e1 : (⟨(j 0).val % 256 * 8 + (j 1).val, by omega⟩ : Fin 2048) = rowOf t (tileRow p q) :=
    Fin.ext (by show (j 0).val % 256 * 8 + (j 1).val = t.val % 8 * 256 + (8 * p.val + q.val); omega)
  exact congrFun (congrArg₂ (Row.sumRow x d) e0 e1) k

theorem codesOut_at (x d : Row.SX.Idx → EReal) (g : Row.SG.Idx → EReal) (t : Fin cfg0.N) (p : Fin 256) (k : Fin 6144) (j : Row.SX.Idx)
    (h0 : (j 0).val = t.val / 8) (h1 : (j 1).val = t.val % 8 * 256 + p.val) (h2 : (j 2).val = k.val) :
    Row.codesOut x d g j = Row.clip (Row.yRow x d g (seqOf t) (rowOf t p) k * Row.invOf (Row.ratio x d g (seqOf t) (rowOf t p))) := by
  unfold Row.codesOut
  rw [show (j 2 : Fin 6144) = k from Fin.ext h2, show (j 0 : Fin 4) = seqOf t from Fin.ext h0, show (j 1 : Fin 2048) = rowOf t p from Fin.ext h1]

theorem scaleOut_at (x d : Row.SX.Idx → EReal) (g : Row.SG.Idx → EReal) (t : Fin cfg0.N) (a : Fin 2) (l : Fin 128) (j : Row.SS.Idx)
    (h0 : (j 0).val = 2 * t.val + a.val) (h1 : (j 1).val = l.val) :
    Row.scaleOut x d g j = Row.scaleOf (Row.ratio x d g (seqOf t) (rowOf t ⟨128 * a.val + l.val, by omega⟩)) := by
  have ht : t.val < 32 := t.isLt
  unfold Row.scaleOut
  have e0 : (⟨(j 0).val / 16, by omega⟩ : Fin 4) = seqOf t := Fin.ext (by show (j 0).val / 16 = t.val / 8; omega)
  have e1 : (⟨(j 0).val % 16 * 128 + (j 1).val, by omega⟩ : Fin 2048) = rowOf t ⟨128 * a.val + l.val, by omega⟩ :=
    Fin.ext (by show (j 0).val % 16 * 128 + (j 1).val = t.val % 8 * 256 + (128 * a.val + l.val); omega)
  exact congrArg Row.scaleOf (congrArg₂ (Row.ratio x d g) e0 e1)

variable {m}

/-- The array of the residual sum. -/
theorem final3 (c : Dev nD) (dat : Dat τ (Elt Ideal) Unit ℕ (UR sig nD τ) ℕ cfg0 c)
    (h : ∀ t : Fin cfg0.N, dat.after 3 t = sumAt m c t) : dat.arrAt 3 cfg0.N = Row.sumOut (argX m c) (argD m c) := by
  refine dat.arrAt_eq_of_covers 3 _ (by decide +kernel) fun t hf y => ?_
  blk_simp
  rw [h]
  revert y
  show ∀ y : S32x8x6144.Idx, _
  intro y
  have e : y = ix3 (n0 := 32) (n1 := 8) (n2 := 6144) (y 0) (y 1) (y 2) := by
    funext a
    fin_cases a <;> rfl
  refine (congrArg (sumAt m c t) e).trans ((sumAt_apply m c t (y 0) (y 1) (y 2)).trans
    (sumOut_at (argX m c) (argD m c) t (y 0) (y 1) (y 2) _ ?_ ?_ ?_).symm) <;> (blk_simp [index3] <;> rfl)

/-- The array of the codes. -/
theorem final4 (c : Dev nD) (dat : Dat τ (Elt Ideal) Unit ℕ (UR sig nD τ) ℕ cfg0 c)
    (h : ∀ t : Fin cfg0.N, dat.after 4 t = codesAt m c t) : dat.arrAt 4 cfg0.N = Row.codesOut (argX m c) (argD m c) (argG m c) := by
  refine dat.arrAt_eq_of_covers 4 _ (by decide +kernel) fun t hf y => ?_
  blk_simp
  rw [h]
  revert y
  show ∀ y : S1x256x6144.Idx, _
  intro y
  have y0 : (y 0).val = 0 := by have : (y 0).val < 1 := (y 0).isLt; omega
  have e : y = ix3 (n0 := 1) (n1 := 256) (n2 := 6144) 0 (y 1) (y 2) := by
    funext a
    fin_cases a
    · exact Fin.ext y0
    · rfl
    · rfl
  refine (congrArg (codesAt m c t) e).trans ((codesAt_apply m c t (y 1) (y 2)).trans
    (codesOut_at (argX m c) (argD m c) (argG m c) t (y 1) (y 2) _ ?_ ?_ ?_).symm)
  · blk_simp [index4]
  · blk_simp [index4]
  · blk_simp [index4]

/-- The array of the scales. -/
theorem final5 (c : Dev nD) (dat : Dat τ (Elt Ideal) Unit ℕ (UR sig nD τ) ℕ cfg0 c)
    (h : ∀ t : Fin cfg0.N, (cfg0.win 5).flush t = true → ScalesUpTo m c t (dat.after 5 t)) :
    dat.arrAt 5 cfg0.N = Row.scaleOut (argX m c) (argD m c) (argG m c) := by
  refine dat.arrAt_eq_of_covers 5 _ (by decide +kernel) fun t hf y => ?_
  have hX := h t hf
  have ht : t.val = 31 := by have h1 := (flush0_5 t).mp hf; have h2 : t.val < 32 := t.isLt; omega
  blk_simp
  revert y
  show ∀ y : S64x128.Idx, _
  intro y
  have y0 : (y 0).val < 64 := (y 0).isLt
  have hu : (y 0).val / 2 < cfg0.N := by show (y 0).val / 2 < 32; omega
  have hlast : (⟨(y 0).val / 2, hu⟩ : Fin cfg0.N).val ≤ t.val := by show (y 0).val / 2 ≤ t.val; omega
  have hsplit : (y 0).val = 2 * (⟨(y 0).val / 2, hu⟩ : Fin cfg0.N).val + (⟨(y 0).val % 2, by omega⟩ : Fin 2).val := by
    show (y 0).val = 2 * ((y 0).val / 2) + (y 0).val % 2
    omega
  refine (hX ⟨(y 0).val / 2, hu⟩ hlast ⟨(y 0).val % 2, by omega⟩ (y 1) y hsplit rfl).trans
    ((scaleAt_apply m c ⟨(y 0).val / 2, hu⟩ ⟨(y 0).val % 2, by omega⟩ (y 1)).trans
      (scaleOut_at (argX m c) (argD m c) (argG m c) ⟨(y 0).val / 2, hu⟩ ⟨(y 0).val % 2, by omega⟩ (y 1) _ ?_ ?_).symm)
  · blk_simp [index5]
    exact hsplit
  · blk_simp [index5]

/-- What a run of the kernel leaves on a device. -/
def Ends (m : (ℓ : Loc nD τ sig) → Buf (Elt Ideal) ℓ) (r : PUnit × MemSt nD τ sig (Elt Ideal)) (c : Dev nD) : Prop :=
  r.2.mem ((c : Thread nD τ).loc main_v1_0) = Row.sumOut (argX m c) (argD m c)
  ∧ r.2.mem ((c : Thread nD τ).loc main_v1_1) = Row.codesOut (argX m c) (argD m c) (argG m c)
  ∧ r.2.mem ((c : Thread nD τ).loc main_v1_2) = Row.scaleOut (argX m c) (argD m c) (argG m c)
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)

/-- The run: the three results, the arguments unchanged, every counter at zero. -/
theorem run_ends : θ_run defs (onTc (τ := τ) (main (F := Ideal))) ⟨m, fun _ => 0, ρ⟩
    (fun r => (∀ c : Dev nD, Ends m r c) ∧ r.2.sem = fun _ => 0) := by
  refine (θ_run defs _ _).mono (fun r hr => ⟨fun c => ?_, hr.2⟩) (run_main m ρ)
  have h := hr.1
  obtain ⟨after, hl, ha⟩ := h.exists_exact c
  refine ⟨(ha 3).trans (final3 c _ fun t => ?_), (ha 4).trans (final4 c _ fun t => ?_), (ha 5).trans (final5 c _ fun t hf => ?_), ?_, ?_, ?_⟩
  · exact Dat.toRRel_leaves (dat := dats m 0 c) (fgt := stated) (Rl := leaves m c) (w := 3) rfl (hl 3 t (flush0_3 t))
  · exact Dat.toRRel_leaves (dat := dats m 0 c) (fgt := stated) (Rl := leaves m c) (w := 4) rfl (hl 4 t (flush0_4 t))
  · exact Dat.toRRel_leaves (dat := dats m 0 c) (fgt := stated) (Rl := leaves m c) (w := 5) rfl (hl 5 t hf)
  · exact (h.arr_in c 0 rfl).trans ((A_eq m c 0).trans (V_main_arg0 m c))
  · exact (h.arr_in c 1 rfl).trans ((A_eq m c 1).trans (V_main_arg1 m c))
  · exact ((h c).2 main_arg2 (Pipeline.mem_restRefs_of main_arg2 (by decide) (by decide))).trans (V_main_arg2 m c)

end Cert.KernelIdeal.Run

end
-- ==== Proof.RefHost.lean ====
/-
  The reference's host computation: each result as a function of the arguments.
-/
module

public import proofs.«01_k».proof.Proof.Gen.ReferenceIdeal.Value
public import Idealize.ShloMosaic.Lib.StableHlo.ReadAt
public import Idealize.ShloMosaic.Lib.Pointwise

@[expose] public section

set_option maxRecDepth 16384

noncomputable section

namespace Cert.ReferenceIdeal.Host

open Cert.ReferenceIdeal Cert.ReferenceIdeal.Gen Idealize.ShloMosaic Idealize.ShloMosaic.TcCoe Idealize.ShloMosaic.Tactic Idealize.SL.Sem

open scoped BigOperators

/-- The residual sum, rounded to the stream's format. -/
def refSum (x d : FVec Ideal S4x2048x6144 .bf16) : FVec Ideal S4x2048x6144 .bf16 :=
  truncf .bf16 (addf (extf .f32 x bitsLt_bf16_f32) (extf .f32 d bitsLt_bf16_f32)) bitsLt_bf16_f32

/-- The normalised rows, from the residual sum and the gain. -/
def refNormed (r : FVec Ideal S4x2048x6144 .bf16) (g : FVec Ideal S6144 .f32) : FVec Ideal S4x2048x6144 .f32 :=
  mulf (mulf (extf .f32 r bitsLt_bf16_f32) (broadcastInDim S4x2048x6144 ![0, 1, 2] bcast_S4x2048x1_S4x2048x6144_0_1_2
    (Host.rsqrt (addf (Host.divf (broadcastInDim S4x2048x1 ![0, 1] bcast_S4x2048_S4x2048x1_0_1
      (Host.reduceAdd (mulf (extf .f32 r bitsLt_bf16_f32) (extf .f32 r bitsLt_bf16_f32)) (constant S_ .f32 0x00000000#32) reducesTo_S4x2048x6144_S4x2048_d2 h_S_))
      (broadcastInDim S4x2048x1 ![] bcast_S_S4x2048x1 (constant S_ .f32 0x45C00000#32)))
      (broadcastInDim S4x2048x1 ![] bcast_S_S4x2048x1 (constant S_ .f32 0x358637BD#32))))))
    (broadcastInDim S4x2048x6144 ![0, 1, 2] bcast_S1x1x6144_S4x2048x6144_0_1_2 (broadcastInDim S1x1x6144 ![2] bcast_S6144_S1x1x6144_2 g))

/-- The rows' absolute maxima. -/
def refAmax (y : FVec Ideal S4x2048x6144 .f32) : FVec Ideal S4x2048x1 .f32 :=
  broadcastInDim S4x2048x1 ![0, 1] bcast_S4x2048_S4x2048x1_0_1
    (Host.reduce FloatOps.maximumf (Host.absf y) (constant S_ .f32 0xFF800000#32) reducesTo_S4x2048x6144_S4x2048_d2 h_S_)

/-- Whether a row's maximum is zero. -/
def refZero (a : FVec Ideal S4x2048x1 .f32) : IVec S4x2048x1 1 :=
  cmpf .oeq a (broadcastInDim S4x2048x1 ![] bcast_S_S4x2048x1 (constant S_ .f32 0x00000000#32))

/-- The exponent of a row whose maximum is not zero. -/
def refLog (a : FVec Ideal S4x2048x1 .f32) : FVec Ideal S4x2048x1 .f32 :=
  addf (Host.floor (Host.divf (Host.log (mulf a (broadcastInDim S4x2048x1 ![] bcast_S_S4x2048x1 (constant S_ .f32 0x3B124925#32))))
    (broadcastInDim S4x2048x1 ![] bcast_S_S4x2048x1 (Host.log (constant S_ .f32 0x40000000#32)))))
    (broadcastInDim S4x2048x1 ![] bcast_S_S4x2048x1 (constant S_ .f32 0x3F800000#32))

/-- The rows' exponents. -/
def refExp (a : FVec Ideal S4x2048x1 .f32) : FVec Ideal S4x2048x1 .f32 :=
  select (refZero a) (broadcastInDim S4x2048x1 ![] bcast_S_S4x2048x1 (constant S_ .f32 0x00000000#32)) (refLog a)

/-- The rows' scales. -/
def refScale (e : FVec Ideal S4x2048x1 .f32) : FVec Ideal S4x2048x1 .f32 :=
  Host.powf (broadcastInDim S4x2048x1 ![] bcast_S_S4x2048x1 (constant S_ .f32 0x40000000#32)) e

/-- The scaled rows, clipped to the codes' range. -/
def refClip (y : FVec Ideal S4x2048x6144 .f32) (e : FVec Ideal S4x2048x1 .f32) : FVec Ideal S4x2048x6144 .f32 :=
  minimumf (broadcastInDim S4x2048x6144 ![] bcast_S_S4x2048x6144 (constant S_ .f32 0x43E00000#32))
    (maximumf (broadcastInDim S4x2048x6144 ![] bcast_S_S4x2048x6144 (constant S_ .f32 0xC3E00000#32))
      (mulf y (broadcastInDim S4x2048x6144 ![0, 1, 2] bcast_S4x2048x1_S4x2048x6144_0_1_2
        (Host.powf (broadcastInDim S4x2048x1 ![] bcast_S_S4x2048x1 (constant S_ .f32 0x40000000#32)) (Host.negf e)))))

variable (m : (ℓ : Loc nD τ sig) → Buf (Elt Ideal) ℓ)

/-- The buffers after the first stretch of host operations. -/
def V0 (c : Dev nD) : (b : DevRef τ sig) → Buf (Elt Ideal) (c, b) := StableHlo.after hostOps0 (fun b => m (c, b))

theorem V0_v3 (c : Dev nD) : V0 m c (Proc.devRef .tc main_v3) = refSum (m (c, Proc.devRef .tc main_arg0)) (m (c, Proc.devRef .tc main_arg1)) := by
  unfold V0 hostOps0
  after_reads_simp
  rfl

theorem V0_v17 (c : Dev nD) : V0 m c (Proc.devRef .tc main_v17) = refNormed (V0 m c (Proc.devRef .tc main_v3)) (m (c, Proc.devRef .tc main_arg2)) := by
  unfold V0 hostOps0
  after_reads_simp
  rfl

theorem V0_v20 (c : Dev nD) : V0 m c (Proc.devRef .tc main_v20) = refAmax (V0 m c (Proc.devRef .tc main_v17)) := by
  unfold V0 hostOps0
  after_reads_simp
  rfl

theorem V0_v24 (c : Dev nD) : V0 m c (Proc.devRef .tc main_v24) = refZero (V0 m c (Proc.devRef .tc main_v20)) := by
  unfold V0 hostOps0
  after_reads_simp
  rfl

theorem V0_v31 (c : Dev nD) : V0 m c (Proc.devRef .tc main_v31) = refLog (V0 m c (Proc.devRef .tc main_v20)) := by
  unfold V0 hostOps0
  after_reads_simp
  rfl

theorem V0_cst7 (c : Dev nD) : V0 m c (Proc.devRef .tc main_cst_7) = constant (F := Ideal) S_ .f32 0x00000000#32 := by
  unfold V0 hostOps0
  after_reads_simp

/-- The buffers at the region's entry, over those after the first stretch. -/
theorem V_eq (c : Dev nD) (b : Ref sig .tc) :
    V m c b = StableHlo.after (List.flatten [hostOps0_1, hostOps0_2, hostOps0_3, hostOps0_4]) (V0 m c) (Proc.devRef .tc b) := by
  unfold V V0
  rw [List.flatten_cons, StableHlo.after_append]

theorem V_v41 (c : Dev nD) : V m c main_v41 = shapeCast (α := EReal) S1024x8x6144 (V0 m c (Proc.devRef .tc main_v3)) shapeCasts_S4x2048x6144_S1024x8x6144 := by
  rw [V_eq]
  generalize V0 m c = V₀
  simp only [hostOps0_1, hostOps0_2, hostOps0_3, hostOps0_4, List.flatten_cons, List.flatten_nil, List.append_nil, List.cons_append, List.nil_append]
  after_reads_simp
  rfl

theorem V_v42 (c : Dev nD) : V m c main_v42 = shapeCast (α := EReal) S64x128 (refScale (refExp (V0 m c (Proc.devRef .tc main_v20)))) shapeCasts_S4x2048x1_S64x128 := by
  unfold refExp
  rw [V_eq, ← V0_v24, ← V0_v31, ← V0_cst7]
  generalize V0 m c = V₀
  simp only [hostOps0_1, hostOps0_2, hostOps0_3, hostOps0_4, List.flatten_cons, List.flatten_nil, List.append_nil, List.cons_append, List.nil_append]
  after_reads_simp
  simp -implicitDefEqProofs only [StableHlo.TRef.toBuf, StableHlo.TRef.ofBuf, cast_cast, cast_eq, id]
  rfl

theorem V_v40 (c : Dev nD) : V m c main_v40 = refClip (V0 m c (Proc.devRef .tc main_v17)) (refExp (V0 m c (Proc.devRef .tc main_v20))) := by
  unfold refExp
  rw [V_eq, ← V0_v24, ← V0_v31, ← V0_cst7]
  generalize V0 m c = V₀
  simp only [hostOps0_1, hostOps0_2, hostOps0_3, hostOps0_4, List.flatten_cons, List.flatten_nil, List.append_nil, List.cons_append, List.nil_append]
  after_reads_simp
  simp -implicitDefEqProofs only [StableHlo.TRef.toBuf, StableHlo.TRef.ofBuf, cast_cast, cast_eq, id]
  rfl

end Cert.ReferenceIdeal.Host

end
-- ==== Proof.RefRows.lean ====
/-
  The reference's results at an index, row by row.
-/
module

public import proofs.«01_k».proof.Proof.RefHost
public import proofs.«01_k».proof.Proof.Rows

@[expose] public section

set_option maxRecDepth 16384

noncomputable section

namespace Cert.ReferenceIdeal.Host

open Cert.ReferenceIdeal Cert.ReferenceIdeal.Gen Idealize.ShloMosaic Idealize.ShloMosaic.TcCoe Idealize.ShloMosaic.Tactic Idealize.SL.Sem

open scoped BigOperators

theorem refSum_apply (x d : FVec Ideal S4x2048x6144 .bf16) (a : Fin 4) (s : Fin 2048) (k : Fin 6144) :
    refSum x d (ix3 a s k) = x (ix3 a s k) + d (ix3 a s k) := by
  pointwise [refSum]

theorem refNormed_apply (r : FVec Ideal S4x2048x6144 .bf16) (g : FVec Ideal S6144 .f32) (a : Fin 4) (s : Fin 2048) (k : Fin 6144) :
    refNormed r g (ix3 a s k) = Row.normed (fun k => r (ix3 a s k)) (fun k => g (ix1 k)) k := by
  pointwise [refNormed]
  rfl

theorem refAmax_apply (y : FVec Ideal S4x2048x6144 .f32) (a : Fin 4) (s : Fin 2048) :
    refAmax y (ix3 a s 0) = Row.amax (fun k => y (ix3 a s k)) := by
  pointwise [refAmax]
  rw [Row.fold_max]
  rfl

theorem refLog_apply (y : FVec Ideal S4x2048x1 .f32) (a : Fin 4) (s : Fin 2048) :
    refLog y (ix3 a s 0) = Row.logExp (y (ix3 a s 0) * Ideal.ofBits .f32 991054117#32) := by
  pointwise [refLog]
  simp only [Row.logExp, Ideal.ofBits_one_f32]

theorem refExp_apply (y : FVec Ideal S4x2048x1 .f32) (a : Fin 4) (s : Fin 2048) :
    refExp y (ix3 a s 0) = Row.rowExp (y (ix3 a s 0)) := by
  have h : refExp y (ix3 a s 0) = if y (ix3 a s 0) = 0 then 0 else refLog y (ix3 a s 0) := by
    generalize hl : refLog y = l
    pointwise [refExp, refZero, hl]
  rw [h, refLog_apply]
  rfl

theorem refScale_apply (e : FVec Ideal S4x2048x1 .f32) (p : Fin 64) (q : Fin 128) :
    shapeCast (α := EReal) S64x128 (refScale e) shapeCasts_S4x2048x1_S64x128 (ix2 p q)
      = Ideal.pow (Ideal.ofBits .f32 1073741824#32) (e (ix3 ⟨p.val / 16, by omega⟩ ⟨p.val % 16 * 128 + q.val, by omega⟩ 0)) := by
  pointwise [refScale]

theorem refSum_flat (r : FVec Ideal S4x2048x6144 .bf16) (p : Fin 1024) (q : Fin 8) (k : Fin 6144) :
    shapeCast (α := EReal) S1024x8x6144 r shapeCasts_S4x2048x6144_S1024x8x6144 (ix3 p q k)
      = r (ix3 ⟨p.val / 256, by omega⟩ ⟨p.val % 256 * 8 + q.val, by omega⟩ k) := by
  pointwise []

theorem refClip_apply (y : FVec Ideal S4x2048x6144 .f32) (e : FVec Ideal S4x2048x1 .f32) (a : Fin 4) (s : Fin 2048) (k : Fin 6144) :
    refClip y e (ix3 a s k) = Row.clip (y (ix3 a s k) * Ideal.pow (Ideal.ofBits .f32 1073741824#32) (-e (ix3 a s 0))) := by
  pointwise [refClip]
  rfl

end Cert.ReferenceIdeal.Host

end
-- ==== Proof.PreRows.lean ====
/-
  What the precondition says of each row.
-/
module

public import proofs.«01_k».proof.Proof.RefRows
public import proofs.«01_k».proof.Pre_in_range

@[expose] public section

set_option maxRecDepth 16384

noncomputable section

namespace Cert.ReferenceIdeal.Host

open Cert.ReferenceIdeal Cert.ReferenceIdeal.Gen Idealize.ShloMosaic Idealize.ShloMosaic.TcCoe Idealize.ShloMosaic.Tactic Idealize.SL.Sem

open scoped BigOperators

/-- The precondition of a row, from the rows' absolute maxima. -/
def preOf (a : FVec Ideal S4x2048x1 .f32) : IVec S4x2048x1 1 :=
  ori (cmpf .oeq (mulf a (broadcastInDim S4x2048x1 ![] bcast_S_S4x2048x1 (constant (F := Ideal) S_ .f32 0x3B124925#32))) (broadcastInDim S4x2048x1 ![] bcast_S_S4x2048x1 (constant S_ .f32 0x00000000#32)))
    (andi (cmpf .oge (mulf a (broadcastInDim S4x2048x1 ![] bcast_S_S4x2048x1 (constant (F := Ideal) S_ .f32 0x3B124925#32))) (broadcastInDim S4x2048x1 ![] bcast_S_S4x2048x1 (constant S_ .f32 0x00800000#32)))
      (cmpf .olt (mulf a (broadcastInDim S4x2048x1 ![] bcast_S_S4x2048x1 (constant (F := Ideal) S_ .f32 0x3B124925#32))) (broadcastInDim S4x2048x1 ![] bcast_S_S4x2048x1 (constant S_ .f32 0x7E800000#32))))

/-- The precondition reads the rows' maxima as the reference computes them. -/
theorem pre_eq [Pre_in_range.Facts] (x d : FVec Ideal S4x2048x6144 .bf16) (g : FVec Ideal S6144 .f32) :
    Pre_in_range.fn (F := Ideal) x d g = preOf (refAmax (refNormed (refSum x d) g)) := rfl

theorem bound_one : Row.bound 1 = Ideal.ofBits .f32 8388608#32 := rfl

theorem bound_last : Row.bound 253 = Ideal.ofBits .f32 2122317824#32 := rfl

theorem preOf_apply (y : FVec Ideal S4x2048x1 .f32) (a : Fin 4) (s : Fin 2048) (h : preOf y = fun _ => 1#1) :
    Row.InRange (y (ix3 a s 0) * Ideal.ofBits .f32 991054117#32) := by
  have h' : preOf y (ix3 a s 0) = 1#1 := congrFun h _
  unfold Row.InRange
  rw [bound_one, bound_last]
  revert h'
  pointwise [preOf]
  generalize y (ix3 a s 0) * Ideal.ofBits .f32 991054117#32 = t
  intro h
  by_cases h1 : t = 0
  · exact Or.inl h1
  by_cases h2 : Ideal.ofBits .f32 8388608#32 ≤ t
  · by_cases h3 : t < Ideal.ofBits .f32 2122317824#32
    · exact Or.inr ⟨h2, h3⟩
    · simp [h1, h3, IntOp.ori, IntOp.andi] at h
  · simp [h1, h2, IntOp.ori, IntOp.andi] at h

end Cert.ReferenceIdeal.Host

end
-- ==== Proof.RefRun.lean ====
/-
  The reference's result arrays after the run, and the run.
-/
module

public import proofs.«01_k».proof.Proof.PreRows
public import proofs.«01_k».proof.Proof.Results
public import Idealize.ShloMosaic.Lib.Pipeline.ValueKit

@[expose] public section

set_option maxRecDepth 16384

noncomputable section

namespace Cert.ReferenceIdeal.Host

open Cert.ReferenceIdeal Cert.ReferenceIdeal.Gen Idealize.ShloMosaic Idealize.ShloMosaic.TcCoe Idealize.ShloMosaic.Tactic Idealize.SL.Sem

open scoped BigOperators

variable (m : (ℓ : Loc nD τ sig) → Buf (Elt Ideal) ℓ) (ρ : Dev nD → PrngReg)

/-- The arguments on a device. -/
abbrev argX (c : Dev nD) : FVec Ideal S4x2048x6144 .bf16 := m ((c : Thread nD τ).loc main_arg0)
abbrev argD (c : Dev nD) : FVec Ideal S4x2048x6144 .bf16 := m ((c : Thread nD τ).loc main_arg1)
abbrev argG (c : Dev nD) : FVec Ideal S6144 .f32 := m ((c : Thread nD τ).loc main_arg2)

/-- The stages on the arguments. -/
theorem v3_eq (c : Dev nD) : V0 m c (Proc.devRef .tc main_v3) = refSum (argX m c) (argD m c) := V0_v3 m c

theorem v17_eq (c : Dev nD) : V0 m c (Proc.devRef .tc main_v17) = refNormed (refSum (argX m c) (argD m c)) (argG m c) := by
  rw [V0_v17, v3_eq]

theorem v20_eq (c : Dev nD) : V0 m c (Proc.devRef .tc main_v20) = refAmax (refNormed (refSum (argX m c) (argD m c)) (argG m c)) := by
  rw [V0_v20, v17_eq]

/-- The normalised rows and their maxima. -/
theorem normed_row (x d : FVec Ideal S4x2048x6144 .bf16) (g : FVec Ideal S6144 .f32) (a : Fin 4) (s : Fin 2048) :
    (fun k => refNormed (refSum x d) g (ix3 a s k)) = Row.yRow x d g a s := by
  funext k
  rw [refNormed_apply]
  simp only [refSum_apply]
  rfl

theorem amax_row (x d : FVec Ideal S4x2048x6144 .bf16) (g : FVec Ideal S6144 .f32) (a : Fin 4) (s : Fin 2048) :
    refAmax (refNormed (refSum x d) g) (ix3 a s 0) = Row.amax (Row.yRow x d g a s) := by
  rw [refAmax_apply, normed_row]

/-- The precondition, row by row. -/
theorem inRange_of_pre [Pre_in_range.Facts] (x d : FVec Ideal S4x2048x6144 .bf16) (g : FVec Ideal S6144 .f32)
    (h : Pre_in_range.fn (F := Ideal) x d g = fun _ => 1#1) (a : Fin 4) (s : Fin 2048) : Row.InRange (Row.ratio x d g a s) := by
  rw [pre_eq] at h
  have := preOf_apply _ a s h
  rwa [amax_row] at this

/-- The codes and the scales, row by row. -/
theorem clip_row (x d : FVec Ideal S4x2048x6144 .bf16) (g : FVec Ideal S6144 .f32) (a : Fin 4) (s : Fin 2048) (k : Fin 6144)
    (h : Row.InRange (Row.ratio x d g a s)) :
    refClip (refNormed (refSum x d) g) (refExp (refAmax (refNormed (refSum x d) g))) (ix3 a s k)
      = Row.clip (Row.yRow x d g a s k * Row.invOf (Row.ratio x d g a s)) := by
  have e : refNormed (refSum x d) g (ix3 a s k) = Row.yRow x d g a s k := congrFun (normed_row x d g a s) k
  rw [refClip_apply, refExp_apply, amax_row, ← Row.invOf_eq h, e]
  rfl

theorem scale_row (x d : FVec Ideal S4x2048x6144 .bf16) (g : FVec Ideal S6144 .f32) (a : Fin 4) (s : Fin 2048)
    (h : Row.InRange (Row.ratio x d g a s)) :
    Ideal.pow (Ideal.ofBits .f32 1073741824#32) (refExp (refAmax (refNormed (refSum x d) g)) (ix3 a s 0)) = Row.scaleOf (Row.ratio x d g a s) := by
  rw [refExp_apply, amax_row]
  exact (Row.scaleOf_eq h).symm

/-- The residual sum. -/
theorem sum_eq (c : Dev nD) : V m c main_v41 = Row.sumOut (argX m c) (argD m c) := by
  rw [V_v41, v3_eq]
  funext j
  revert j
  show ∀ j : S1024x8x6144.Idx, _
  intro j
  have e : j = ix3 (n0 := 1024) (n1 := 8) (n2 := 6144) (j 0) (j 1) (j 2) := by
    funext a
    fin_cases a <;> rfl
  refine (congrArg _ e).trans ((refSum_flat _ (j 0) (j 1) (j 2)).trans ?_)
  exact refSum_apply _ _ _ _ _

/-- The scales. -/
theorem scale_eq (c : Dev nD) (h : ∀ a s, Row.InRange (Row.ratio (argX m c) (argD m c) (argG m c) a s)) :
    V m c main_v42 = Row.scaleOut (argX m c) (argD m c) (argG m c) := by
  rw [V_v42, v20_eq]
  funext j
  revert j
  show ∀ j : S64x128.Idx, _
  intro j
  have e : j = ix2 (n0 := 64) (n1 := 128) (j 0) (j 1) := by
    funext a
    fin_cases a <;> rfl
  refine (congrArg _ e).trans ((refScale_apply _ (j 0) (j 1)).trans ?_)
  exact scale_row _ _ _ _ _ (h _ _)

/-- What the reference's last step rounds to the codes. -/
theorem clip_eq (c : Dev nD) (h : ∀ a s, Row.InRange (Row.ratio (argX m c) (argD m c) (argG m c) a s)) :
    V m c main_v40 = Row.codesOut (argX m c) (argD m c) (argG m c) := by
  rw [V_v40, v20_eq, v17_eq]
  funext j
  revert j
  show ∀ j : S4x2048x6144.Idx, _
  intro j
  have e : j = ix3 (n0 := 4) (n1 := 2048) (n2 := 6144) (j 0) (j 1) (j 2) := by
    funext a
    fin_cases a <;> rfl
  exact (congrArg _ e).trans (clip_row _ _ _ (j 0) (j 1) (j 2) (h _ _))

theorem index_in : ∀ t : Fin cfg0.N, win0_0.index t = ![0, 0, 0] := (by decide +kernel : ∀ t : Fin grid0.N, _)
theorem index_out : ∀ t : Fin cfg0.N, win0_1.index t = ![0, 0, 0] := (by decide +kernel : ∀ t : Fin grid0.N, _)

/-- The one block is the whole array. -/
theorem emb_in (t : Fin cfg0.N) (y : S4x2048x6144.Idx) : ((cfg0.win 0).blk t).view.emb y = y := by
  blk_ext [index_in]

theorem emb_out (t : Fin cfg0.N) (y : S4x2048x6144.Idx) : ((cfg0.win 1).blk t).view.emb y = y := by
  blk_ext [index_out]

theorem emb_load (y : S4x2048x6144.Idx) : r0_0.emb (Value.ix1_0 y) = y := by
  funext a
  apply Fin.ext
  fin_cases a
  · show 0 + 1 * (y 0).val = (y 0).val; omega
  · show 0 + 1 * (y 1).val = (y 1).val; omega
  · show 0 + 1 * (y 2).val = (y 2).val; omega

/-- What the last step reads at an index is the clipped value there. -/
theorem out_apply (c : Dev nD) (t : Fin cfg0.N) (y : S4x2048x6144.Idx) : out0_1 (iblk m c 0 t) y = V m c main_v40 y := by
  unfold out0_1
  rw [Value.canon1_eq]
  show V m c main_v40 (((cfg0.win 0).blk t).view.emb (r0_0.emb (Value.ix1_0 y))) = _
  rw [emb_load]
  exact congrArg (V m c main_v40) (emb_in t y)

/-- The codes. -/
theorem codes_eq (c : Dev nD) (h : ∀ a s, Row.InRange (Row.ratio (argX m c) (argD m c) (argG m c) a s)) :
    (dats m 0 c).arrAt 1 cfg0.N = Row.codesOut (argX m c) (argD m c) (argG m c) := by
  rw [← clip_eq m c h]
  refine (dats m 0 c).arrAt_eq_of_covers 1 _ (by decide +kernel) fun t hf y => ?_
  blk_simp
  rw [after0_1]
  exact (out_apply m c t y).trans (congrArg (V m c main_v40) (emb_out t y).symm)

/-- What a run of the reference leaves on a device. -/
theorem run_ends (h : ∀ c a s, Row.InRange (Row.ratio (argX m c) (argD m c) (argG m c) a s)) :
    θ_run defs (onTc (τ := τ) (main (F := Ideal))) ⟨m, fun _ => 0, ρ⟩ fun r => ∀ c : Dev nD,
      r.2.mem ((c : Thread nD τ).loc main_v41) = Row.sumOut (argX m c) (argD m c)
      ∧ r.2.mem ((c : Thread nD τ).loc main_v43) = Row.codesOut (argX m c) (argD m c) (argG m c)
      ∧ r.2.mem ((c : Thread nD τ).loc main_v42) = Row.scaleOut (argX m c) (argD m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c =>
    ⟨((hr c).2 main_v41 (Pipeline.mem_restRefs_of main_v41 (by decide) (by decide))).trans (sum_eq m c),
      (Value.post1 m r hr c).trans (codes_eq m c (h c)),
      ((hr c).2 main_v42 (Pipeline.mem_restRefs_of main_v42 (by decide) (by decide))).trans (scale_eq m c (h c)),
      Value.kept_main_arg0 m r hr c, Value.kept_main_arg1 m r hr c, Value.kept_main_arg2 m r hr c⟩)
    (run_main m ρ)

end Cert.ReferenceIdeal.Host

end
-- ==== Proof.lean ====
/-
  The claim: the frames, the idealisation, and the equality of the kernel's and the reference's results over the reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.ReferenceIdeal.Value
public import proofs.«01_k».proof.Proof.FrameRun
public import proofs.«01_k».proof.Proof.KernelArrays
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The kernel over the reals ends, its arguments unchanged, every counter at zero. -/
theorem kernelIdeal_frame : Cert.quiescent_KernelIdeal := fun m ρ _ =>
  (θ_run _ _ _).mono (fun _ h => ⟨fun c => (h.1 c).2.2.2, h.2⟩) (Cert.KernelIdeal.Run.run_ends (m := m) ρ)

/-- The kernel's and the reference's results are the same functions of the arguments. -/
theorem algebraic : Cert.algebraic_KernelIdeal_ReferenceIdeal_pre_in_range := fun m ρ m' ρ' hpre hargs => by
  have hx : ∀ c, Cert.ReferenceIdeal.Host.argX m' c = Cert.KernelIdeal.Run.argX m c := fun c => (hargs c).1
  have hd : ∀ c, Cert.ReferenceIdeal.Host.argD m' c = Cert.KernelIdeal.Run.argD m c := fun c => (hargs c).2.1
  have hg : ∀ c, Cert.ReferenceIdeal.Host.argG m' c = Cert.KernelIdeal.Run.argG m c := fun c => (hargs c).2.2
  have hr : ∀ c a s, Cert.Row.InRange (Cert.Row.ratio (Cert.ReferenceIdeal.Host.argX m' c) (Cert.ReferenceIdeal.Host.argD m' c) (Cert.ReferenceIdeal.Host.argG m' c) a s) := by
    intro c a s
    rw [hx, hd, hg]
    exact Cert.ReferenceIdeal.Host.inRange_of_pre _ _ _ (hpre c) a s
  refine ⟨fun c => Cert.Row.sumOut (Cert.KernelIdeal.Run.argX m c) (Cert.KernelIdeal.Run.argD m c),
    fun c => Cert.Row.codesOut (Cert.KernelIdeal.Run.argX m c) (Cert.KernelIdeal.Run.argD m c) (Cert.KernelIdeal.Run.argG m c),
    fun c => Cert.Row.scaleOut (Cert.KernelIdeal.Run.argX m c) (Cert.KernelIdeal.Run.argD m c) (Cert.KernelIdeal.Run.argG m c), ?_, ?_⟩
  · exact (θ_run _ _ _).mono (fun _ h c => h.1 c) (Cert.KernelIdeal.Run.run_ends (m := m) ρ)
  · refine (θ_run _ _ _).mono (fun _ h c => ?_) (Cert.ReferenceIdeal.Host.run_ends m' ρ' hr)
    obtain ⟨h0, h1, h2, h3⟩ := h c
    rw [hx, hd] at h0
    rw [hx, hd, hg] at h1 h2
    exact ⟨h0, h1, h2, h3⟩

theorem claim : Cert.Claim := ⟨Cert.Kernel.Gen.facts, Cert.KernelIdeal.Gen.facts, Cert.ReferenceIdeal.Gen.facts, Cert.Pre_in_range.Gen.facts,
  fun m ρ _ => Cert.Kernel.Run.frame m ρ, kernelIdeal_frame, fun m ρ _ => kernelIdeal_frame m ρ trivial,
  fun m ρ _ => Cert.ReferenceIdeal.Gen.frame m ρ, fun m ρ _ => Cert.ReferenceIdeal.Gen.frame m ρ, trivial, algebraic⟩

end Cert.Proof

end
